-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_args [hPre_finite_args : Cert.Pre_finite_args.Facts] (m : (ℓ : Loc Cert.MlpIdeal.nD Cert.MlpIdeal.τ Cert.MlpIdeal.sig) → Buf (Elt Ideal) ℓ) : Prop :=
  ∀ c : Dev Cert.MlpIdeal.nD,
    (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.2.2.2.2.1 = (fun _ => 1#1)
    ∧ (Cert.Pre_finite_args.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13)) (m ((c.tc : Thread Cert.MlpIdeal.nD Cert.MlpIdeal.τ).loc Cert.MlpIdeal.main_arg14)) (m ((c.tc : Thread Cert.MlpIdeal.nD Cert.MlpIdeal.τ).loc Cert.MlpIdeal.main_arg15)) (m ((c.tc : Thread Cert.MlpIdeal.nD Cert.MlpIdeal.τ).loc Cert.MlpIdeal.main_arg16)) (m ((c.tc : Thread Cert.MlpIdeal.nD Cert.MlpIdeal.τ).loc Cert.MlpIdeal.main_arg17)) (m ((c.tc : Thread Cert.MlpIdeal.nD Cert.MlpIdeal.τ).loc Cert.MlpIdeal.main_arg18))).2.2.2.2.2.2.2.2.2.2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_finite_args [hPre_finite_args : Cert.Pre_finite_args.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.2.2.2.2.1 = (fun _ => 1#1)
    ∧ (Cert.Pre_finite_args.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8)) (m ((c.tc : Thread Cert.MlpRefIdeal.nD Cert.MlpRefIdeal.τ).loc Cert.MlpRefIdeal.main_arg9)) (m ((c.tc : Thread Cert.MlpRefIdeal.nD Cert.MlpRefIdeal.τ).loc Cert.MlpRefIdeal.main_arg10)) (m ((c.tc : Thread Cert.MlpRefIdeal.nD Cert.MlpRefIdeal.τ).loc Cert.MlpRefIdeal.main_arg11)) (m ((c.tc : Thread Cert.MlpRefIdeal.nD Cert.MlpRefIdeal.τ).loc Cert.MlpRefIdeal.main_arg12)) (m ((c.tc : Thread Cert.MlpRefIdeal.nD Cert.MlpRefIdeal.τ).loc Cert.MlpRefIdeal.main_arg13)) (m ((c.tc : Thread Cert.MlpRefIdeal.nD Cert.MlpRefIdeal.τ).loc Cert.MlpRefIdeal.main_arg14)) (m ((c.tc : Thread Cert.MlpRefIdeal.nD Cert.MlpRefIdeal.τ).loc Cert.MlpRefIdeal.main_arg15)) (m ((c.tc : Thread Cert.MlpRefIdeal.nD Cert.MlpRefIdeal.τ).loc Cert.MlpRefIdeal.main_arg16)) (m ((c.tc : Thread Cert.MlpRefIdeal.nD Cert.MlpRefIdeal.τ).loc Cert.MlpRefIdeal.main_arg17)) (m ((c.tc : Thread Cert.MlpRefIdeal.nD Cert.MlpRefIdeal.τ).loc Cert.MlpRefIdeal.main_arg18))).2.2.2.2.2.2.2.2.2.2.2.2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14)
      ∧ r.2.mem ((c.tc : Thread Cert.Mlp.nD Cert.Mlp.τ).loc Cert.Mlp.main_arg15) = m ((c.tc : Thread Cert.Mlp.nD Cert.Mlp.τ).loc Cert.Mlp.main_arg15)
      ∧ r.2.mem ((c.tc : Thread Cert.Mlp.nD Cert.Mlp.τ).loc Cert.Mlp.main_arg16) = m ((c.tc : Thread Cert.Mlp.nD Cert.Mlp.τ).loc Cert.Mlp.main_arg16)
      ∧ r.2.mem ((c.tc : Thread Cert.Mlp.nD Cert.Mlp.τ).loc Cert.Mlp.main_arg17) = m ((c.tc : Thread Cert.Mlp.nD Cert.Mlp.τ).loc Cert.Mlp.main_arg17)
      ∧ r.2.mem ((c.tc : Thread Cert.Mlp.nD Cert.Mlp.τ).loc Cert.Mlp.main_arg18) = m ((c.tc : Thread Cert.Mlp.nD Cert.Mlp.τ).loc Cert.Mlp.main_arg18))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
      ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
      ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ r.2.sem = fun _ => 0)

def quiescent_MlpIdeal_pre_finite_args [hMlpIdeal : Cert.MlpIdeal.Facts] [hPre_finite_args : Cert.Pre_finite_args.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_args m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
      ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
      ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18))
      ∧ r.2.sem = fun _ => 0)

def quiescent_MlpRefIdeal_pre_finite_args [hMlpRefIdeal : Cert.MlpRefIdeal.Facts] [hPre_finite_args : Cert.Pre_finite_args.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_finite_args m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18))
      ∧ r.2.sem = fun _ => 0)

def preserves_Mlp_MlpIdeal : Prop :=
  True

def algebraic_MlpIdeal_MlpRefIdeal_pre_finite_args [hMlpIdeal : Cert.MlpIdeal.Facts] [hMlpRefIdeal : Cert.MlpRefIdeal.Facts] [hPre_finite_args : Cert.Pre_finite_args.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_finite_args m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)
      ∧ m' ((c.tc : Thread Cert.MlpRefIdeal.nD Cert.MlpRefIdeal.τ).loc Cert.MlpRefIdeal.main_arg15) = m ((c.tc : Thread Cert.MlpIdeal.nD Cert.MlpIdeal.τ).loc Cert.MlpIdeal.main_arg15)
      ∧ m' ((c.tc : Thread Cert.MlpRefIdeal.nD Cert.MlpRefIdeal.τ).loc Cert.MlpRefIdeal.main_arg16) = m ((c.tc : Thread Cert.MlpIdeal.nD Cert.MlpIdeal.τ).loc Cert.MlpIdeal.main_arg16)
      ∧ m' ((c.tc : Thread Cert.MlpRefIdeal.nD Cert.MlpRefIdeal.τ).loc Cert.MlpRefIdeal.main_arg17) = m ((c.tc : Thread Cert.MlpIdeal.nD Cert.MlpIdeal.τ).loc Cert.MlpIdeal.main_arg17)
      ∧ m' ((c.tc : Thread Cert.MlpRefIdeal.nD Cert.MlpRefIdeal.τ).loc Cert.MlpRefIdeal.main_arg18) = m ((c.tc : Thread Cert.MlpIdeal.nD Cert.MlpIdeal.τ).loc Cert.MlpIdeal.main_arg18)) →
    ∃ (v0 : (c : Dev Cert.MlpIdeal.nD) → Buf (Elt Ideal) ((c.tc : Thread Cert.MlpIdeal.nD Cert.MlpIdeal.τ).loc Cert.MlpIdeal.main_v83)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v83) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
          ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
          ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
          ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
          ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v107) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14)
          ∧ r.2.mem ((c.tc : Thread Cert.MlpRefIdeal.nD Cert.MlpRefIdeal.τ).loc Cert.MlpRefIdeal.main_arg15) = m' ((c.tc : Thread Cert.MlpRefIdeal.nD Cert.MlpRefIdeal.τ).loc Cert.MlpRefIdeal.main_arg15)
          ∧ r.2.mem ((c.tc : Thread Cert.MlpRefIdeal.nD Cert.MlpRefIdeal.τ).loc Cert.MlpRefIdeal.main_arg16) = m' ((c.tc : Thread Cert.MlpRefIdeal.nD Cert.MlpRefIdeal.τ).loc Cert.MlpRefIdeal.main_arg16)
          ∧ r.2.mem ((c.tc : Thread Cert.MlpRefIdeal.nD Cert.MlpRefIdeal.τ).loc Cert.MlpRefIdeal.main_arg17) = m' ((c.tc : Thread Cert.MlpRefIdeal.nD Cert.MlpRefIdeal.τ).loc Cert.MlpRefIdeal.main_arg17)
          ∧ r.2.mem ((c.tc : Thread Cert.MlpRefIdeal.nD Cert.MlpRefIdeal.τ).loc Cert.MlpRefIdeal.main_arg18) = m' ((c.tc : Thread Cert.MlpRefIdeal.nD Cert.MlpRefIdeal.τ).loc Cert.MlpRefIdeal.main_arg18))

def Claim : Prop :=
  ∃ (hMlp : Cert.Mlp.Facts) (hMlpIdeal : Cert.MlpIdeal.Facts) (hMlpRefIdeal : Cert.MlpRefIdeal.Facts) (hPre_finite_args : Cert.Pre_finite_args.Facts),
    quiescent_Mlp (hMlp := hMlp)
    ∧ quiescent_MlpIdeal (hMlpIdeal := hMlpIdeal)
    ∧ quiescent_MlpIdeal_pre_finite_args (hMlpIdeal := hMlpIdeal) (hPre_finite_args := hPre_finite_args)
    ∧ quiescent_MlpRefIdeal (hMlpRefIdeal := hMlpRefIdeal)
    ∧ quiescent_MlpRefIdeal_pre_finite_args (hMlpRefIdeal := hMlpRefIdeal) (hPre_finite_args := hPre_finite_args)
    ∧ preserves_Mlp_MlpIdeal
    ∧ algebraic_MlpIdeal_MlpRefIdeal_pre_finite_args (hMlpIdeal := hMlpIdeal) (hMlpRefIdeal := hMlpRefIdeal) (hPre_finite_args := hPre_finite_args)
-- ==== Pre_finite_args.lean ====
abbrev S32x2048x3 : Shape := ⟨3, ![32, 2048, 3]⟩
abbrev S32x128x32 : Shape := ⟨3, ![32, 128, 32]⟩
abbrev S32x128x8 : Shape := ⟨3, ![32, 128, 8]⟩
abbrev S256x6 : Shape := ⟨2, ![256, 6]⟩
abbrev S256 : Shape := ⟨1, ![256]⟩
abbrev S512x256 : Shape := ⟨2, ![512, 256]⟩
abbrev S512 : Shape := ⟨1, ![512]⟩
abbrev S384x512 : Shape := ⟨2, ![384, 512]⟩
abbrev S384 : Shape := ⟨1, ![384]⟩
abbrev S768x768 : Shape := ⟨2, ![768, 768]⟩
abbrev S768 : Shape := ⟨1, ![768]⟩
abbrev S384x768 : Shape := ⟨2, ![384, 768]⟩
abbrev S_ : Shape := ⟨0, ![]⟩

class Facts : Prop where
  bcast_S_S32x2048x3 : S_.BroadcastsInDim S32x2048x3 (![] : Fin 0 → Fin S32x2048x3.rank)
  bcast_S_S32x128x8 : S_.BroadcastsInDim S32x128x8 (![] : Fin 0 → Fin S32x128x8.rank)
  bcast_S_S256x6 : S_.BroadcastsInDim S256x6 (![] : Fin 0 → Fin S256x6.rank)
  bcast_S_S256 : S_.BroadcastsInDim S256 (![] : Fin 0 → Fin S256.rank)
  bcast_S_S512x256 : S_.BroadcastsInDim S512x256 (![] : Fin 0 → Fin S512x256.rank)
  bcast_S_S512 : S_.BroadcastsInDim S512 (![] : Fin 0 → Fin S512.rank)
  bcast_S_S384x512 : S_.BroadcastsInDim S384x512 (![] : Fin 0 → Fin S384x512.rank)
  bcast_S_S384 : S_.BroadcastsInDim S384 (![] : Fin 0 → Fin S384.rank)
  bcast_S_S768x768 : S_.BroadcastsInDim S768x768 (![] : Fin 0 → Fin S768x768.rank)
  bcast_S_S768 : S_.BroadcastsInDim S768 (![] : Fin 0 → Fin S768.rank)

variable [Facts]

def fn_part2 {F : FTy → Type} [FloatOps F] (main_arg13 : FVec F S768x768 .f32) (main_arg14 : FVec F S768 .f32) (main_arg15 : FVec F S768 .f32) (main_v2 : IVec S32x2048x3 1) (main_v5 : IVec S32x128x8 1) (main_v8 : IVec S256x6 1) (main_v11 : IVec S256 1) (main_v14 : IVec S256 1) (main_v17 : IVec S256 1) (main_v20 : IVec S512x256 1) (main_v23 : IVec S512 1) (main_v26 : IVec S512 1) (main_v29 : IVec S512 1) (main_v32 : IVec S384x512 1) (main_v35 : IVec S384 1) : IVec S32x2048x3 1 × IVec S32x128x8 1 × IVec S256x6 1 × IVec S256 1 × IVec S256 1 × IVec S256 1 × IVec S512x256 1 × IVec S512 1 × IVec S512 1 × IVec S512 1 × IVec S384x512 1 × IVec S384 1 × IVec S768x768 1 × IVec S768 1 × IVec S768 1 :=
  let main_v36 : FVec F S768x768 .f32 := Host.absf main_arg13
  let main_cst_11 : FVec F S_ .f32 := constant S_ .f32 0x7F800000#32
  let main_v37 : FVec F S768x768 .f32 := broadcastInDim S768x768 ![] bcast_S_S768x768 main_cst_11
  let main_v38 : IVec S768x768 1 := cmpf .olt main_v36 main_v37
  let main_v39 : FVec F S768 .f32 := Host.absf main_arg14
  let main_cst_12 : FVec F S_ .f32 := constant S_ .f32 0x7F800000#32
  let main_v40 : FVec F S768 .f32 := broadcastInDim S768 ![] bcast_S_S768 main_cst_12
  let main_v41 : IVec S768 1 := cmpf .olt main_v39 main_v40
  let main_v42 : FVec F S768 .f32 := Host.absf main_arg15
  let main_cst_13 : FVec F S_ .f32 := constant S_ .f32 0x7F800000#32
  let main_v43 : FVec F S768 .f32 := broadcastInDim S768 ![] bcast_S_S768 main_cst_13
  let main_v44 : IVec S768 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg7 : FVec F S512x256 .f32) (main_arg8 : FVec F S512 .f32) (main_arg9 : FVec F S512 .f32) (main_arg10 : FVec F S512 .f32) (main_arg11 : FVec F S384x512 .f32) (main_arg12 : FVec F S384 .f32) (main_arg13 : FVec F S768x768 .f32) (main_arg14 : FVec F S768 .f32) (main_arg15 : FVec F S768 .f32) (main_v2 : IVec S32x2048x3 1) (main_v5 : IVec S32x128x8 1) (main_v8 : IVec S256x6 1) (main_v11 : IVec S256 1) (main_v14 : IVec S256 1) (main_v17 : IVec S256 1) : IVec S32x2048x3 1 × IVec S32x128x8 1 × IVec S256x6 1 × IVec S256 1 × IVec S256 1 × IVec S256 1 × IVec S512x256 1 × IVec S512 1 × IVec S512 1 × IVec S512 1 × IVec S384x512 1 × IVec S384 1 × IVec S768x768 1 × IVec S768 1 × IVec S768 1 :=
  let main_v18 : FVec F S512x256 .f32 := Host.absf main_arg7
  let main_cst_5 : FVec F S_ .f32 := constant S_ .f32 0x7F800000#32
  let main_v19 : FVec F S512x256 .f32 := broadcastInDim S512x256 ![] bcast_S_S512x256 main_cst_5
  let main_v20 : IVec S512x256 1 := cmpf .olt main_v18 main_v19
  let main_v21 : FVec F S512 .f32 := Host.absf main_arg8
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg9
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S512 .f32 := Host.absf main_arg10
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S384x512 .f32 := Host.absf main_arg11
  let main_cst_9 : FVec F S_ .f32 := constant S_ .f32 0x7F800000#32
  let main_v31 : FVec F S384x512 .f32 := broadcastInDim S384x512 ![] bcast_S_S384x512 main_cst_9
  let main_v32 : IVec S384x512 1 := cmpf .olt main_v30 main_v31
  let main_v33 : FVec F S384 .f32 := Host.absf main_arg12
  let main_cst_10 : FVec F S_ .f32 := constant S_ .f32 0x7F800000#32
  let main_v34 : FVec F S384 .f32 := broadcastInDim S384 ![] bcast_S_S384 main_cst_10
  let main_v35 : IVec S384 1 := cmpf .olt main_v33 main_v34
  fn_part2 (F := F) main_arg13 main_arg14 main_arg15 main_v2 main_v5 main_v8 main_v11 main_v14 main_v17 main_v20 main_v23 main_v26 main_v29 main_v32 main_v35

def fn {F : FTy → Type} [FloatOps F] (main_arg0 : FVec F S32x2048x3 .f32) (main_arg1 : IVec S32x128x32 32) (main_arg2 : FVec F S32x128x8 .f32) (main_arg3 : FVec F S256x6 .f32) (main_arg4 : FVec F S256 .f32) (main_arg5 : FVec F S256 .f32) (main_arg6 : FVec F S256 .f32) (main_arg7 : FVec F S512x256 .f32) (main_arg8 : FVec F S512 .f32) (main_arg9 : FVec F S512 .f32) (main_arg10 : FVec F S512 .f32) (main_arg11 : FVec F S384x512 .f32) (main_arg12 : FVec F S384 .f32) (main_arg13 : FVec F S768x768 .f32) (main_arg14 : FVec F S768 .f32) (main_arg15 : FVec F S768 .f32) (main_arg16 : FVec F S768 .f32) (main_arg17 : FVec F S384x768 .f32) (main_arg18 : FVec F S384 .f32) : IVec S32x2048x3 1 × IVec S32x128x8 1 × IVec S256x6 1 × IVec S256 1 × IVec S256 1 × IVec S256 1 × IVec S512x256 1 × IVec S512 1 × IVec S512 1 × IVec S512 1 × IVec S384x512 1 × IVec S384 1 × IVec S768x768 1 × IVec S768 1 × IVec S768 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_v3 : FVec F S32x128x8 .f32 := Host.absf main_arg2
  let main_cst_0 : FVec F S_ .f32 := constant S_ .f32 0x7F800000#32
  let main_v4 : FVec F S32x128x8 .f32 := broadcastInDim S32x128x8 ![] bcast_S_S32x128x8 main_cst_0
  let main_v5 : IVec S32x128x8 1 := cmpf .olt main_v3 main_v4
  let main_v6 : FVec F S256x6 .f32 := Host.absf main_arg3
  let main_cst_1 : FVec F S_ .f32 := constant S_ .f32 0x7F800000#32
  let main_v7 : FVec F S256x6 .f32 := broadcastInDim S256x6 ![] bcast_S_S256x6 main_cst_1
  let main_v8 : IVec S256x6 1 := cmpf .olt main_v6 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256 .f32 := Host.absf main_arg5
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256 .f32 := Host.absf main_arg6
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg7 main_arg8 main_arg9 main_arg10 main_arg11 main_arg12 main_arg13 main_arg14 main_arg15 main_v2 main_v5 main_v8 main_v11 main_v14 main_v17
-- ==== Mlp.lean ====
abbrev S32x2048x3 : Shape := ⟨3, ![32, 2048, 3]⟩
abbrev S32x128x32 : Shape := ⟨3, ![32, 128, 32]⟩
abbrev S32x128x8 : Shape := ⟨3, ![32, 128, 8]⟩
abbrev S256x6 : Shape := ⟨2, ![256, 6]⟩
abbrev S256 : Shape := ⟨1, ![256]⟩
abbrev S512x256 : Shape := ⟨2, ![512, 256]⟩
abbrev S512 : Shape := ⟨1, ![512]⟩
abbrev S384x512 : Shape := ⟨2, ![384, 512]⟩
abbrev S384 : Shape := ⟨1, ![384]⟩
abbrev S768x768 : Shape := ⟨2, ![768, 768]⟩
abbrev S768 : Shape := ⟨1, ![768]⟩
abbrev S384x768 : Shape := ⟨2, ![384, 768]⟩
abbrev S65536x3 : Shape := ⟨2, ![65536, 3]⟩
abbrev S_ : Shape := ⟨0, ![]⟩
abbrev S65536x8 : Shape := ⟨2, ![65536, 8]⟩
abbrev S131072 : Shape := ⟨1, ![131072]⟩
abbrev S131072x1 : Shape := ⟨2, ![131072, 1]⟩
abbrev S131072x8 : Shape := ⟨2, ![131072, 8]⟩
abbrev S4096x8 : Shape := ⟨2, ![4096, 8]⟩
abbrev S4096x3 : Shape := ⟨2, ![4096, 3]⟩
abbrev S4096x2 : Shape := ⟨2, ![4096, 2]⟩
abbrev S4096x32x8 : Shape := ⟨3, ![4096, 32, 8]⟩
abbrev S256x3 : Shape := ⟨2, ![256, 3]⟩
abbrev S256x2 : Shape := ⟨2, ![256, 2]⟩
abbrev S256x8 : Shape := ⟨2, ![256, 8]⟩
abbrev S1x256 : Shape := ⟨2, ![1, 256]⟩
abbrev S1024x8 : Shape := ⟨2, ![1024, 8]⟩
abbrev S1024x256 : Shape := ⟨2, ![1024, 256]⟩
abbrev S1x512 : Shape := ⟨2, ![1, 512]⟩
abbrev S1024x512 : Shape := ⟨2, ![1024, 512]⟩
abbrev S768x384 : Shape := ⟨2, ![768, 384]⟩
abbrev S1x384 : Shape := ⟨2, ![1, 384]⟩
abbrev S1x768 : Shape := ⟨2, ![1, 768]⟩
abbrev S131072x384 : Shape := ⟨2, ![131072, 384]⟩
abbrev S4096x384 : Shape := ⟨2, ![4096, 384]⟩
abbrev S1024x384 : Shape := ⟨2, ![1024, 384]⟩
abbrev S32x384 : Shape := ⟨2, ![32, 384]⟩
abbrev S32x32x384 : Shape := ⟨3, ![32, 32, 384]⟩
abbrev S32x768 : Shape := ⟨2, ![32, 768]⟩
abbrev S32x1x768 : Shape := ⟨3, ![32, 1, 768]⟩
abbrev S32x32x768 : Shape := ⟨3, ![32, 32, 768]⟩
abbrev S1024x768 : Shape := ⟨2, ![1024, 768]⟩

abbrev nBuf : Space → Nat
  | .hbm => 123
  | .vmem => 56
  | .smem => 0
  | _ => 0

abbrev bufTy : (tb : Table) → Fin (tcTables nBuf tb) → BufTy
  | .hbm, ⟨0, _⟩ => ⟨S32x2048x3, .f32⟩
  | .hbm, ⟨1, _⟩ => ⟨S32x128x32, .i32⟩
  | .hbm, ⟨2, _⟩ => ⟨S32x128x8, .f32⟩
  | .hbm, ⟨3, _⟩ => ⟨S256x6, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S512x256, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S384x512, .f32⟩
  | .hbm, ⟨12, _⟩ => ⟨S384, .f32⟩
  | .hbm, ⟨13, _⟩ => ⟨S768x768, .f32⟩
  | .hbm, ⟨14, _⟩ => ⟨S768, .f32⟩
  | .hbm, ⟨15, _⟩ => ⟨S768, .f32⟩
  | .hbm, ⟨16, _⟩ => ⟨S768, .f32⟩
  | .hbm, ⟨17, _⟩ => ⟨S384x768, .f32⟩
  | .hbm, ⟨18, _⟩ => ⟨S384, .f32⟩
  | .hbm, ⟨19, _⟩ => ⟨S65536x3, .f32⟩
  | .hbm, ⟨20, _⟩ => ⟨S_, .i32⟩
  | .hbm, ⟨21, _⟩ => ⟨S_, .f32⟩
  | .hbm, ⟨22, _⟩ => ⟨S65536x8, .f32⟩
  | .hbm, ⟨23, _⟩ => ⟨S131072, .i32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x8, .f32⟩
  | .hbm, ⟨33, _⟩ => ⟨S4096x8, .f32⟩
  | .hbm, ⟨34, _⟩ => ⟨S4096x3, .f32⟩
  | .hbm, ⟨35, _⟩ => ⟨S4096x3, .f32⟩
  | .hbm, ⟨36, _⟩ => ⟨S_, .f32⟩
  | .hbm, ⟨37, _⟩ => ⟨S4096x2, .f32⟩
  | .hbm, ⟨38, _⟩ => ⟨S4096x8, .f32⟩
  | .hbm, ⟨39, _⟩ => ⟨S4096x32x8, .f32⟩
  | .hbm, ⟨40, _⟩ => ⟨S131072x8, .f32⟩
  | .hbm, ⟨41, _⟩ => ⟨S256x3, .f32⟩
  | .hbm, ⟨42, _⟩ => ⟨S256x3, .f32⟩
  | .hbm, ⟨43, _⟩ => ⟨S_, .f32⟩
  | .hbm, ⟨44, _⟩ => ⟨S256x2, .f32⟩
  | .hbm, ⟨45, _⟩ => ⟨S256x8, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S256, .f32⟩
  | .hbm, ⟨66, _⟩ => ⟨S256, .f32⟩
  | .hbm, ⟨67, _⟩ => ⟨S1x256, .f32⟩
  | .hbm, ⟨68, _⟩ => ⟨S1x256, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S_, .f32⟩
  | .hbm, ⟨78, _⟩ => ⟨S512, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S_, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S512, .f32⟩
  | .hbm, ⟨87, _⟩ => ⟨S1x512, .f32⟩
  | .hbm, ⟨88, _⟩ => ⟨S512, .f32⟩
  | .hbm, ⟨89, _⟩ => ⟨S512, .f32⟩
  | .hbm, ⟨90, _⟩ => ⟨S1x512, .f32⟩
  | .hbm, ⟨91, _⟩ => ⟨S768x384, .f32⟩
  | .hbm, ⟨92, _⟩ => ⟨S768x384, .f32⟩
  | .hbm, ⟨93, _⟩ => ⟨S1x256, .f32⟩
  | .hbm, ⟨94, _⟩ => ⟨S1x512, .f32⟩
  | .hbm, ⟨95, _⟩ => ⟨S1x384, .f32⟩
  | .hbm, ⟨96, _⟩ => ⟨S1x768, .f32⟩
  | .hbm, ⟨97, _⟩ => ⟨S131072x384, .f32⟩
  | .hbm, ⟨98, _⟩ => ⟨S4096x384, .f32⟩
  | .hbm, ⟨99, _⟩ => ⟨S1x768, .f32⟩
  | .hbm, ⟨100, _⟩ => ⟨S1x768, .f32⟩
  | .hbm, ⟨101, _⟩ => ⟨S768, .f32⟩
  | .hbm, ⟨102, _⟩ => ⟨S_, .f32⟩
  | .hbm, ⟨103, _⟩ => ⟨S768, .f32⟩
  | .hbm, ⟨104, _⟩ => ⟨S768, .f32⟩
  | .hbm, ⟨105, _⟩ => ⟨S768, .f32⟩
  | .hbm, ⟨106, _⟩ => ⟨S_, .f32⟩
  | .hbm, ⟨107, _⟩ => ⟨S768, .f32⟩
  | .hbm, ⟨108, _⟩ => ⟨S768, .f32⟩
  | .hbm, ⟨109, _⟩ => ⟨S768, .f32⟩
  | .hbm, ⟨110, _⟩ => ⟨S768, .f32⟩
  | .hbm, ⟨111, _⟩ => ⟨S_, .f32⟩
  | .hbm, ⟨112, _⟩ => ⟨S768, .f32⟩
  | .hbm, ⟨113, _⟩ => ⟨S768, .f32⟩
  | .hbm, ⟨114, _⟩ => ⟨S768, .f32⟩
  | .hbm, ⟨115, _⟩ => ⟨S768, .f32⟩
  | .hbm, ⟨116, _⟩ => ⟨S1x768, .f32⟩
  | .hbm, ⟨117, _⟩ => ⟨S768, .f32⟩
  | .hbm, ⟨118, _⟩ => ⟨S768, .f32⟩
  | .hbm, ⟨119, _⟩ => ⟨S1x768, .f32⟩
  | .hbm, ⟨120, _⟩ => ⟨S1x768, .f32⟩
  | .hbm, ⟨121, _⟩ => ⟨S1x384, .f32⟩
  | .hbm, ⟨122, _⟩ => ⟨S4096x384, .f32⟩
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S256x8, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x8, .f32⟩
  | .local _ .vmem, ⟨9, _⟩ => ⟨S1024x8, .f32⟩
  | .local _ .vmem, ⟨10, _⟩ => ⟨S1024x8, .f32⟩
  | .local _ .vmem, ⟨11, _⟩ => ⟨S1024x8, .f32⟩
  | .local _ .vmem, ⟨12, _⟩ => ⟨S256x8, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1024x8, .f32⟩
  | .local _ .vmem, ⟨21, _⟩ => ⟨S1024x8, .f32⟩
  | .local _ .vmem, ⟨22, _⟩ => ⟨S1024x8, .f32⟩
  | .local _ .vmem, ⟨23, _⟩ => ⟨S1024x8, .f32⟩
  | .local _ .vmem, ⟨24, _⟩ => ⟨S256x8, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S384x512, .f32⟩
  | .local _ .vmem, ⟨33, _⟩ => ⟨S1x384, .f32⟩
  | .local _ .vmem, ⟨34, _⟩ => ⟨S768x384, .f32⟩
  | .local _ .vmem, ⟨35, _⟩ => ⟨S768x384, .f32⟩
  | .local _ .vmem, ⟨36, _⟩ => ⟨S1x768, .f32⟩
  | .local _ .vmem, ⟨37, _⟩ => ⟨S1024x384, .f32⟩
  | .local _ .vmem, ⟨38, _⟩ => ⟨S1024x384, .f32⟩
  | .local _ .vmem, ⟨39, _⟩ => ⟨S32x384, .f32⟩
  | .local _ .vmem, ⟨40, _⟩ => ⟨S32x384, .f32⟩
  | .local _ .vmem, ⟨41, _⟩ => ⟨S1x768, .f32⟩
  | .local _ .vmem, ⟨42, _⟩ => ⟨S1x768, .f32⟩
  | .local _ .vmem, ⟨43, _⟩ => ⟨S1024x384, .f32⟩
  | .local _ .vmem, ⟨44, _⟩ => ⟨S1024x384, .f32⟩
  | .local _ .vmem, ⟨45, _⟩ => ⟨S32x384, .f32⟩
  | .local _ .vmem, ⟨46, _⟩ => ⟨S32x384, .f32⟩
  | .local _ .vmem, ⟨47, _⟩ => ⟨S768x384, .f32⟩
  | .local _ .vmem, ⟨48, _⟩ => ⟨S768x384, .f32⟩
  | .local _ .vmem, ⟨49, _⟩ => ⟨S1x768, .f32⟩
  | .local _ .vmem, ⟨50, _⟩ => ⟨S1x768, .f32⟩
  | .local _ .vmem, ⟨51, _⟩ => ⟨S1x768, .f32⟩
  | .local _ .vmem, ⟨52, _⟩ => ⟨S384x768, .f32⟩
  | .local _ .vmem, ⟨53, _⟩ => ⟨S1x384, .f32⟩
  | .local _ .vmem, ⟨54, _⟩ => ⟨S32x384, .f32⟩
  | .local _ .vmem, ⟨55, _⟩ => ⟨S32x384, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41_0 : Ref sig .tc := ⟨.hbm, 70, rfl⟩
abbrev main_v41_1 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64_0 : Ref sig .tc := ⟨.hbm, 97, rfl⟩
abbrev main_v64_1 : Ref sig .tc := ⟨.hbm, 98, rfl⟩
abbrev main_v64_2 : Ref sig .tc := ⟨.hbm, 99, rfl⟩
abbrev main_v64_3 : Ref sig .tc := ⟨.hbm, 100, rfl⟩
abbrev main_v65 : Ref sig .tc := ⟨.hbm, 101, rfl⟩
abbrev main_cst_9 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_10 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_11 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg13_0 : Ref sig .tc := ⟨.vmem, 35, rfl⟩
abbrev cc2_stg14_0 : Ref sig .tc := ⟨.vmem, 36, rfl⟩
abbrev cc2_stg15_0 : Ref sig .tc := ⟨.vmem, 37, rfl⟩
abbrev cc2_stg15_1 : Ref sig .tc := ⟨.vmem, 38, rfl⟩
abbrev cc2_stg16_0 : Ref sig .tc := ⟨.vmem, 39, rfl⟩
abbrev cc2_stg16_1 : Ref sig .tc := ⟨.vmem, 40, rfl⟩
abbrev cc2_stg17_0 : Ref sig .tc := ⟨.vmem, 41, rfl⟩
abbrev cc2_stg18_0 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg9_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc2_sem13_0 : DmaSem sig := 35
abbrev cc2_sem14_0 : DmaSem sig := 36
abbrev cc2_sem15_0 : DmaSem sig := 37
abbrev cc2_sem15_1 : DmaSem sig := 38
abbrev cc2_sem16_0 : DmaSem sig := 39
abbrev cc2_sem16_1 : DmaSem sig := 40
abbrev cc2_sem17_0 : DmaSem sig := 41
abbrev cc2_sem18_0 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S384x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x384 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S768x384 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S768x384 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x768 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S1024x384 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S32x384 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 1 → Memref sig .tc .vmem S1x768 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x768 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x768 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S384x768 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x384 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S32x384 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]
-- ==== MlpRefIdeal.lean ====
abbrev S32x2048x3 : Shape := ⟨3, ![32, 2048, 3]⟩
abbrev S32x128x32 : Shape := ⟨3, ![32, 128, 32]⟩
abbrev S32x128x8 : Shape := ⟨3, ![32, 128, 8]⟩
abbrev S256x6 : Shape := ⟨2, ![256, 6]⟩
abbrev S256 : Shape := ⟨1, ![256]⟩
abbrev S512x256 : Shape := ⟨2, ![512, 256]⟩
abbrev S512 : Shape := ⟨1, ![512]⟩
abbrev S384x512 : Shape := ⟨2, ![384, 512]⟩
abbrev S384 : Shape := ⟨1, ![384]⟩
abbrev S768x768 : Shape := ⟨2, ![768, 768]⟩
abbrev S768 : Shape := ⟨1, ![768]⟩
abbrev S384x768 : Shape := ⟨2, ![384, 768]⟩
abbrev S32x128x3 : Shape := ⟨3, ![32, 128, 3]⟩
abbrev S65536x3 : Shape := ⟨2, ![65536, 3]⟩
abbrev S131072 : Shape := ⟨1, ![131072]⟩
abbrev S_ : Shape := ⟨0, ![]⟩
abbrev S131072x1 : Shape := ⟨2, ![131072, 1]⟩
abbrev S131072x3 : Shape := ⟨2, ![131072, 3]⟩
abbrev S32x128x32x3 : Shape := ⟨4, ![32, 128, 32, 3]⟩
abbrev S32x128x1x3 : Shape := ⟨4, ![32, 128, 1, 3]⟩
abbrev S32x128x32x6 : Shape := ⟨4, ![32, 128, 32, 6]⟩
abbrev S4096x32x6 : Shape := ⟨3, ![4096, 32, 6]⟩
abbrev S6x256 : Shape := ⟨2, ![6, 256]⟩
abbrev S4096x32x256 : Shape := ⟨3, ![4096, 32, 256]⟩
abbrev S1x1x256 : Shape := ⟨3, ![1, 1, 256]⟩
abbrev S256x512 : Shape := ⟨2, ![256, 512]⟩
abbrev S4096x32x512 : Shape := ⟨3, ![4096, 32, 512]⟩
abbrev S1x1x512 : Shape := ⟨3, ![1, 1, 512]⟩
abbrev S512x384 : Shape := ⟨2, ![512, 384]⟩
abbrev S4096x32x384 : Shape := ⟨3, ![4096, 32, 384]⟩
abbrev S1x1x384 : Shape := ⟨3, ![1, 1, 384]⟩
abbrev S4096x384 : Shape := ⟨2, ![4096, 384]⟩
abbrev S4096x1x384 : Shape := ⟨3, ![4096, 1, 384]⟩
abbrev S4096x32x768 : Shape := ⟨3, ![4096, 32, 768]⟩
abbrev S1x1x768 : Shape := ⟨3, ![1, 1, 768]⟩
abbrev S768x384 : Shape := ⟨2, ![768, 384]⟩

abbrev nBuf : Space → Nat
  | .hbm => 212
  | .vmem => 0
  | .smem => 0
  | _ => 0

abbrev hbmTy0_0 (i : Nat) : BufTy := match i % 128 with
  | 0 => ⟨S32x2048x3, .f32⟩
  | 1 => ⟨S32x128x32, .i32⟩
  | 2 => ⟨S32x128x8, .f32⟩
  | 3 => ⟨S256x6, .f32⟩
  | 4 => ⟨S256, .f32⟩
  | 5 => ⟨S256, .f32⟩
  | 6 => ⟨S256, .f32⟩
  | 7 => ⟨S512x256, .f32⟩
  | 8 => ⟨S512, .f32⟩
  | 9 => ⟨S512, .f32⟩
  | 10 => ⟨S512, .f32⟩
  | 11 => ⟨S384x512, .f32⟩
  | 12 => ⟨S384, .f32⟩
  | 13 => ⟨S768x768, .f32⟩
  | 14 => ⟨S768, .f32⟩
  | 15 => ⟨S768, .f32⟩
  | 16 => ⟨S768, .f32⟩
  | 17 => ⟨S384x768, .f32⟩
  | 18 => ⟨S384, .f32⟩
  | 19 => ⟨S32x128x3, .f32⟩
  | 20 => ⟨S65536x3, .f32⟩
  | 21 => ⟨S131072, .i32⟩
  | 22 => ⟨S_, .i32⟩
  | 23 => ⟨S131072, .i32⟩
  | 24 => ⟨S131072, .i1⟩
  | 25 => ⟨S_, .i32⟩
  | 26 => ⟨S131072, .i32⟩
  | 27 => ⟨S131072, .i32⟩
  | 28 => ⟨S131072, .i32⟩
  | 29 => ⟨S131072x1, .i32⟩
  | 30 => ⟨S131072x3, .f32⟩
  | 31 => ⟨S32x128x32x3, .f32⟩
  | 32 => ⟨S32x128x1x3, .f32⟩
  | 33 => ⟨S32x128x32x3, .f32⟩
  | 34 => ⟨S32x128x32x3, .f32⟩
  | 35 => ⟨S32x128x1x3, .f32⟩
  | 36 => ⟨S32x128x32x3, .f32⟩
  | 37 => ⟨S32x128x32x6, .f32⟩
  | 38 => ⟨S4096x32x6, .f32⟩
  | 39 => ⟨S6x256, .f32⟩
  | 40 => ⟨S4096x32x256, .f32⟩
  | 41 => ⟨S1x1x256, .f32⟩
  | 42 => ⟨S4096x32x256, .f32⟩
  | 43 => ⟨S4096x32x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x1x256, .f32⟩
  | 53 => ⟨S_, .f32⟩
  | 54 => ⟨S1x1x256, .f32⟩
  | 55 => ⟨S1x1x256, .f32⟩
  | 56 => ⟨S4096x32x256, .f32⟩
  | 57 => ⟨S4096x32x256, .f32⟩
  | 58 => ⟨S4096x32x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x1x256, .f32⟩
  | 73 => ⟨S4096x32x256, .f32⟩
  | 74 => ⟨S4096x32x256, .f32⟩
  | 75 => ⟨S_, .f32⟩
  | 76 => ⟨S256, .f32⟩
  | 77 => ⟨S256, .f32⟩
  | 78 => ⟨S256, .f32⟩
  | 79 => ⟨S1x1x256, .f32⟩
  | 80 => ⟨S4096x32x256, .f32⟩
  | 81 => ⟨S4096x32x256, .f32⟩
  | 82 => ⟨S1x1x256, .f32⟩
  | 83 => ⟨S4096x32x256, .f32⟩
  | 84 => ⟨S4096x32x256, .f32⟩
  | 85 => ⟨S1x1x256, .f32⟩
  | 86 => ⟨S4096x32x256, .f32⟩
  | 87 => ⟨S4096x32x256, .f32⟩
  | 88 => ⟨S_, .f32⟩
  | 89 => ⟨S4096x32x256, .f32⟩
  | 90 => ⟨S4096x32x256, .f32⟩
  | 91 => ⟨S256x512, .f32⟩
  | 92 => ⟨S4096x32x512, .f32⟩
  | 93 => ⟨S1x1x512, .f32⟩
  | 94 => ⟨S4096x32x512, .f32⟩
  | 95 => ⟨S4096x32x512, .f32⟩
  | 96 => ⟨S_, .f32⟩
  | 97 => ⟨S512, .f32⟩
  | 98 => ⟨S_, .f32⟩
  | 99 => ⟨S512, .f32⟩
  | 100 => ⟨S512, .f32⟩
  | 101 => ⟨S_, .i32⟩
  | 102 => ⟨S_, .f32⟩
  | 103 => ⟨S512, .f32⟩
  | 104 => ⟨S1x1x512, .f32⟩
  | 105 => ⟨S_, .f32⟩
  | 106 => ⟨S1x1x512, .f32⟩
  | 107 => ⟨S1x1x512, .f32⟩
  | 108 => ⟨S4096x32x512, .f32⟩
  | 109 => ⟨S4096x32x512, .f32⟩
  | 110 => ⟨S4096x32x512, .f32⟩
  | 111 => ⟨S_, .f32⟩
  | 112 => ⟨S_, .f32⟩
  | 113 => ⟨S_, .f32⟩
  | 114 => ⟨S_, .f32⟩
  | 115 => ⟨S512, .f32⟩
  | 116 => ⟨S512, .f32⟩
  | 117 => ⟨S512, .f32⟩
  | 118 => ⟨S_, .f32⟩
  | 119 => ⟨S_, .i1⟩
  | 120 => ⟨S_, .f32⟩
  | 121 => ⟨S_, .f32⟩
  | 122 => ⟨S512, .f32⟩
  | 123 => ⟨S512, .f32⟩
  | 124 => ⟨S1x1x512, .f32⟩
  | 125 => ⟨S4096x32x512, .f32⟩
  | 126 => ⟨S4096x32x512, .f32⟩
  | 127 => ⟨S_, .f32⟩
  | _ => ⟨S32x2048x3, .f32⟩

abbrev hbmTy0_1 (i : Nat) : BufTy := match i % 128 with
  | 0 => ⟨S512, .f32⟩
  | 1 => ⟨S512, .f32⟩
  | 2 => ⟨S512, .f32⟩
  | 3 => ⟨S1x1x512, .f32⟩
  | 4 => ⟨S4096x32x512, .f32⟩
  | 5 => ⟨S4096x32x512, .f32⟩
  | 6 => ⟨S1x1x512, .f32⟩
  | 7 => ⟨S4096x32x512, .f32⟩
  | 8 => ⟨S4096x32x512, .f32⟩
  | 9 => ⟨S1x1x512, .f32⟩
  | 10 => ⟨S4096x32x512, .f32⟩
  | 11 => ⟨S4096x32x512, .f32⟩
  | 12 => ⟨S_, .f32⟩
  | 13 => ⟨S4096x32x512, .f32⟩
  | 14 => ⟨S4096x32x512, .f32⟩
  | 15 => ⟨S512x384, .f32⟩
  | 16 => ⟨S4096x32x384, .f32⟩
  | 17 => ⟨S1x1x384, .f32⟩
  | 18 => ⟨S4096x32x384, .f32⟩
  | 19 => ⟨S4096x32x384, .f32⟩
  | 20 => ⟨S_, .f32⟩
  | 21 => ⟨S4096x384, .f32⟩
  | 22 => ⟨S4096x1x384, .f32⟩
  | 23 => ⟨S4096x32x384, .f32⟩
  | 24 => ⟨S4096x32x768, .f32⟩
  | 25 => ⟨S768x768, .f32⟩
  | 26 => ⟨S4096x32x768, .f32⟩
  | 27 => ⟨S1x1x768, .f32⟩
  | 28 => ⟨S4096x32x768, .f32⟩
  | 29 => ⟨S4096x32x768, .f32⟩
  | 30 => ⟨S_, .f32⟩
  | 31 => ⟨S768, .f32⟩
  | 32 => ⟨S_, .f32⟩
  | 33 => ⟨S768, .f32⟩
  | 34 => ⟨S768, .f32⟩
  | 35 => ⟨S_, .i32⟩
  | 36 => ⟨S_, .f32⟩
  | 37 => ⟨S768, .f32⟩
  | 38 => ⟨S1x1x768, .f32⟩
  | 39 => ⟨S_, .f32⟩
  | 40 => ⟨S1x1x768, .f32⟩
  | 41 => ⟨S1x1x768, .f32⟩
  | 42 => ⟨S4096x32x768, .f32⟩
  | 43 => ⟨S4096x32x768, .f32⟩
  | 44 => ⟨S4096x32x768, .f32⟩
  | 45 => ⟨S_, .f32⟩
  | 46 => ⟨S_, .f32⟩
  | 47 => ⟨S_, .f32⟩
  | 48 => ⟨S_, .f32⟩
  | 49 => ⟨S768, .f32⟩
  | 50 => ⟨S768, .f32⟩
  | 51 => ⟨S768, .f32⟩
  | 52 => ⟨S_, .f32⟩
  | 53 => ⟨S_, .i1⟩
  | 54 => ⟨S_, .f32⟩
  | 55 => ⟨S_, .f32⟩
  | 56 => ⟨S768, .f32⟩
  | 57 => ⟨S768, .f32⟩
  | 58 => ⟨S1x1x768, .f32⟩
  | 59 => ⟨S4096x32x768, .f32⟩
  | 60 => ⟨S4096x32x768, .f32⟩
  | 61 => ⟨S_, .f32⟩
  | 62 => ⟨S768, .f32⟩
  | 63 => ⟨S768, .f32⟩
  | 64 => ⟨S768, .f32⟩
  | 65 => ⟨S1x1x768, .f32⟩
  | 66 => ⟨S4096x32x768, .f32⟩
  | 67 => ⟨S4096x32x768, .f32⟩
  | 68 => ⟨S1x1x768, .f32⟩
  | 69 => ⟨S4096x32x768, .f32⟩
  | 70 => ⟨S4096x32x768, .f32⟩
  | 71 => ⟨S1x1x768, .f32⟩
  | 72 => ⟨S4096x32x768, .f32⟩
  | 73 => ⟨S4096x32x768, .f32⟩
  | 74 => ⟨S_, .f32⟩
  | 75 => ⟨S4096x32x768, .f32⟩
  | 76 => ⟨S4096x32x768, .f32⟩
  | 77 => ⟨S768x384, .f32⟩
  | 78 => ⟨S4096x32x384, .f32⟩
  | 79 => ⟨S1x1x384, .f32⟩
  | 80 => ⟨S4096x32x384, .f32⟩
  | 81 => ⟨S4096x32x384, .f32⟩
  | 82 => ⟨S_, .f32⟩
  | 83 => ⟨S4096x384, .f32⟩
  | _ => ⟨S32x2048x3, .f32⟩

abbrev hbmTy (i : Nat) : BufTy := match i / 128 with
  | 0 => hbmTy0_0 i
  | 1 => hbmTy0_1 i
  | _ => ⟨S32x2048x3, .f32⟩

abbrev bufTy : (tb : Table) → Fin (tcTables nBuf tb) → BufTy
  | .hbm, ⟨i, _⟩ => hbmTy i
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_3 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_call1_cst : Ref sig .tc := ⟨.hbm, 88, rfl⟩
abbrev main_call1_v0 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_4 : Ref sig .tc := ⟨.hbm, 96, rfl⟩
abbrev main_v48 : Ref sig .tc := ⟨.hbm, 97, rfl⟩
abbrev main_cst_5 : Ref sig .tc := ⟨.hbm, 98, rfl⟩
abbrev main_v49 : Ref sig .tc := ⟨.hbm, 99, rfl⟩
abbrev main_v50 : Ref sig .tc := ⟨.hbm, 100, rfl⟩
abbrev main_c_6 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_7 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_call3_cst : Ref sig .tc := ⟨.hbm, 140, rfl⟩
abbrev main_call3_v0 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_8 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_cst_9 : Ref sig .tc := ⟨.hbm, 158, rfl⟩
abbrev main_v82 : Ref sig .tc := ⟨.hbm, 159, rfl⟩
abbrev main_cst_10 : Ref sig .tc := ⟨.hbm, 160, rfl⟩
abbrev main_v83 : Ref sig .tc := ⟨.hbm, 161, rfl⟩
abbrev main_v84 : Ref sig .tc := ⟨.hbm, 162, rfl⟩
abbrev main_c_11 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_cst_3 : Ref sig .tc := ⟨.hbm, 180, rfl⟩
abbrev main_call4_v12 : Ref sig .tc := ⟨.hbm, 181, rfl⟩
abbrev main_call4_cst_4 : Ref sig .tc := ⟨.hbm, 182, rfl⟩
abbrev main_call4_call0_v0 : Ref sig .tc := ⟨.hbm, 183, rfl⟩
abbrev main_call4_call0_v1 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_cst_12 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_call5_cst : Ref sig .tc := ⟨.hbm, 202, rfl⟩
abbrev main_call5_v0 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_cst_13 : Ref sig .tc := ⟨.hbm, 210, rfl⟩
abbrev main_v107 : Ref sig .tc := ⟨.hbm, 211, rfl⟩

abbrev nD : Nat := 1
abbrev τ : Topo := Topo.v7x

variable {F : FTy → Type} [FloatOps F]
-- ==== Proof.MlpIdealMid.lean ====
/-
  The third kernel of the program MlpIdeal, on any contents of its arrays: what a grid point's stores leave, the contents of the
  output buffers after each point, and that the body keeps to them. Set up as for the other three kernels; the two runs of
  the body are only allowed more work.
-/
module

public import proofs.«01_k».proof.Proof.Gen.MlpIdeal.Launch
public import proofs.«01_k».proof.Proof.Gen.MlpIdeal.Skeleton
public import proofs.«01_k».proof.Proof.Gen.MlpIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxHeartbeats 4000000
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 128 = 0 :=
  (fun t => by
    have ht : t.val < 128 := Nat.lt_of_lt_of_eq t.isLt N_2
    have e0 : (grid2.coords t 0).val = t.val / 1 % 128 := Pipeline.Grid.coords_val t 0 (by decide) rfl
    simp only [cond2_0, e0]
    word_cmp
   : ∀ t : Fin grid2.N, cond2_0 (grid2.coords t) ↔ t.val % 128 = 0)

/-! ## The kernel body on any staging memrefs: a subtype the run finds -/

/-- One staging buffer of output window 15, through which its contents are stated (`View.read_writes_of_cover`: the
    choice does not matter). -/
abbrev VO2_15 : View sig .tc .vmem S1024x384 .f32 := (Memref.whole cc2_stg15_0 : Memref sig .tc .vmem S1024x384 .f32).view
/-- One staging buffer of output window 16, through which its contents are stated (`View.read_writes_of_cover`: the
    choice does not matter). -/
abbrev VO2_16 : View sig .tc .vmem S32x384 .f32 := (Memref.whole cc2_stg16_0 : Memref sig .tc .vmem S32x384 .f32).view
/-- One staging buffer of output window 17, through which its contents are stated (`View.read_writes_of_cover`: the
    choice does not matter). -/
abbrev VO2_17 : View sig .tc .vmem S1x768 .f32 := (Memref.whole cc2_stg17_0 : Memref sig .tc .vmem S1x768 .f32).view
/-- One staging buffer of output window 18, through which its contents are stated (`View.read_writes_of_cover`: the
    choice does not matter). -/
abbrev VO2_18 : View sig .tc .vmem S1x768 .f32 := (Memref.whole cc2_stg18_0 : Memref sig .tc .vmem S1x768 .f32).view
/-- Each window's current staging memref at point `t`, spelled as the pipeline passes it (`bodyAt2`), and its wholeness. -/
abbrev ms2_0 (t : Fin cfg2.N) : Memref sig .tc .vmem S1024x8 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x8 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x512 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S384x512 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x384 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S768x384 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S768x384 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x768 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S1024x384 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S32x384 .f32 := win2_16.stage (cfg2.slots t 16)
abbrev hs2_16 (t : Fin cfg2.N) : (ms2_16 t).IsWhole := hstage2_16 ((cfg2.slots t 16).cast nbuf2_16)
abbrev ms2_17 (t : Fin cfg2.N) : Memref sig .tc .vmem S1x768 .f32 := win2_17.stage (cfg2.slots t 17)
abbrev hs2_17 (t : Fin cfg2.N) : (ms2_17 t).IsWhole := hstage2_17 ((cfg2.slots t 17).cast nbuf2_17)
abbrev ms2_18 (t : Fin cfg2.N) : Memref sig .tc .vmem S1x768 .f32 := win2_18.stage (cfg2.slots t 18)
abbrev hs2_18 (t : Fin cfg2.N) : (ms2_18 t).IsWhole := hstage2_18 ((cfg2.slots t 18).cast nbuf2_18)
set_option maxHeartbeats 8000000 in
noncomputable def kernelRun2_A (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) :
    Σ' (L15 : List (View.Piece (Elt F) S1024x384 .f32)), Σ' (L16 : List (View.Piece (Elt F) S32x384 .f32)), Σ' (L17 : List (View.Piece (Elt F) S1x768 .f32)), { L18 : List (View.Piece (Elt F) S1x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc2__mid_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc2__mid_body_eq_skeleton]; unfold cc2__mid_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    iexists _; iexact H18

theorem cover2_A_15 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (y : S1024x384.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1 S1024x384.size (by sl_kernel_rfl) y

/-- What case A leaves in output 15's staging buffer: its pieces read back over junk. -/
def out2_A_15 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) : Vec F S1024x384 .f32 :=
  VO2_15.read (Elt F) (VO2_15.writes (Elt F) VO2_15.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).1)

theorem cover2_A_16 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (y : S32x384.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1 S32x384.size (by sl_kernel_rfl) y

/-- What case A leaves in output 16's staging buffer: its pieces read back over junk. -/
def out2_A_16 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) : Vec F S32x384 .f32 :=
  VO2_16.read (Elt F) (VO2_16.writes (Elt F) VO2_16.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.1)

theorem cover2_A_17 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (y : S1x768.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1 S1x768.size (by sl_kernel_rfl) y

/-- What case A leaves in output 17's staging buffer: its pieces read back over junk. -/
def out2_A_17 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) : Vec F S1x768 .f32 :=
  VO2_17.read (Elt F) (VO2_17.writes (Elt F) VO2_17.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.1)

theorem cover2_A_18 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (y : S1x768.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1 S1x768.size (by sl_kernel_rfl) y

/-- What case A leaves in output 18's staging buffer: its pieces read back over junk. -/
def out2_A_18 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) : Vec F S1x768 .f32 :=
  VO2_18.read (Elt F) (VO2_18.writes (Elt F) VO2_18.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14).2.2.2.1)
set_option maxHeartbeats 8000000 in
noncomputable def kernelRun2_B (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) :
    Σ' (L15 : List (View.Piece (Elt F) S1024x384 .f32)), Σ' (L16 : List (View.Piece (Elt F) S32x384 .f32)), Σ' (L17 : List (View.Piece (Elt F) S1x768 .f32)), { L18 : List (View.Piece (Elt F) S1x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ owns (c : Thread nD τ) arg18 fullShare xo17 ∗ owns (c : Thread nD τ) arg19 fullShare xo18
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc2__mid_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc2__mid_body_eq_skeleton]; unfold cc2__mid_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg18.eq_unread hf17; obtain rfl := harg19.eq_unread hf18
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    iexists _; iexact H18

theorem cover2_B_15 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) (y : S1024x384.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1 S1024x384.size (by sl_kernel_rfl) y

/-- What case B leaves in output 15's staging buffer: its pieces read back over junk. -/
def out2_B_15 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) : Vec F S1024x384 .f32 :=
  VO2_15.read (Elt F) (VO2_15.writes (Elt F) VO2_15.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).1)

theorem cover2_B_16 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) (y : S32x384.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1 S32x384.size (by sl_kernel_rfl) y

/-- What case B leaves in output 16's staging buffer: its pieces read back over junk. -/
def out2_B_16 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) : Vec F S32x384 .f32 :=
  VO2_16.read (Elt F) (VO2_16.writes (Elt F) VO2_16.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.1)

theorem cover2_B_17 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) (y : S1x768.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1 S1x768.size (by sl_kernel_rfl) y

/-- What case B leaves in output 17's staging buffer: its pieces read back over junk. -/
def out2_B_17 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) : Vec F S1x768 .f32 :=
  VO2_17.read (Elt F) (VO2_17.writes (Elt F) VO2_17.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.1)

theorem cover2_B_18 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) (y : S1x768.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1 S1x768.size (by sl_kernel_rfl) y

/-- What case B leaves in output 18's staging buffer: its pieces read back over junk. -/
def out2_B_18 (c : Dev nD) (i : grid2.Coords) (arg1 : Memref sig .tc .vmem S1024x8 .f32) (harg1 : arg1.IsWhole) (arg2 : Memref sig .tc .vmem S1024x8 .f32) (harg2 : arg2.IsWhole) (arg3 : Memref sig .tc .vmem S256x8 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S384x512 .f32) (harg11 : arg11.IsWhole) (arg12 : Memref sig .tc .vmem S1x384 .f32) (harg12 : arg12.IsWhole) (arg13 : Memref sig .tc .vmem S768x384 .f32) (harg13 : arg13.IsWhole) (arg14 : Memref sig .tc .vmem S768x384 .f32) (harg14 : arg14.IsWhole) (arg15 : Memref sig .tc .vmem S1x768 .f32) (harg15 : arg15.IsWhole) (arg16 : Memref sig .tc .vmem S1024x384 .f32) (harg16 : arg16.IsWhole) (arg17 : Memref sig .tc .vmem S32x384 .f32) (harg17 : arg17.IsWhole) (arg18 : Memref sig .tc .vmem S1x768 .f32) (harg18 : arg18.IsWhole) (arg19 : Memref sig .tc .vmem S1x768 .f32) (harg19 : arg19.IsWhole) (hc0 : ¬cond2_0 i)
    (x0 : Vec F S1024x8 .f32) (x1 : Vec F S1024x8 .f32) (x2 : Vec F S256x8 .f32) (x3 : Vec F S1x256 .f32) (x4 : Vec F S1x256 .f32) (x5 : Vec F S1x256 .f32) (x6 : Vec F S512x256 .f32) (x7 : Vec F S1x512 .f32) (x8 : Vec F S1x512 .f32) (x9 : Vec F S1x512 .f32) (x10 : Vec F S384x512 .f32) (x11 : Vec F S1x384 .f32) (x12 : Vec F S768x384 .f32) (x13 : Vec F S768x384 .f32) (x14 : Vec F S1x768 .f32) (xo17 : Vec F S1x768 .f32) (xo18 : Vec F S1x768 .f32) : Vec F S1x768 .f32 :=
  VO2_18.read (Elt F) (VO2_18.writes (Elt F) VO2_18.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 xo17 xo18).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x384 .f32 × Vec F S32x384 .f32 × Vec F S1x768 .f32 × Vec F S1x768 .f32
  | 0, hn => (out2_A_15 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩), out2_A_16 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩), out2_A_17 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩), out2_A_18 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) (ms2_18 ⟨0, hn⟩) (hs2_18 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩))
  | n + 1, hn =>
    if h0 : (n + 1) % 128 = 0 then
      (out2_A_15 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩), out2_A_16 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩), out2_A_17 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩), out2_A_18 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩))
    else
      (out2_B_15 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (outsAt2 c n (Nat.lt_of_succ_lt hn)).2.2.1 (outsAt2 c n (Nat.lt_of_succ_lt hn)).2.2.2, out2_B_16 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (outsAt2 c n (Nat.lt_of_succ_lt hn)).2.2.1 (outsAt2 c n (Nat.lt_of_succ_lt hn)).2.2.2, out2_B_17 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (outsAt2 c n (Nat.lt_of_succ_lt hn)).2.2.1 (outsAt2 c n (Nat.lt_of_succ_lt hn)).2.2.2, out2_B_18 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (ms2_18 ⟨n + 1, hn⟩) (hs2_18 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (outsAt2 c n (Nat.lt_of_succ_lt hn)).2.2.1 (outsAt2 c n (Nat.lt_of_succ_lt hn)).2.2.2)

/-- `outsAt2` at a point of case A: that case's contents. -/
theorem outsAt2_A (c : Dev nD) (t : Fin cfg2.N) (h0 : t.val % 128 = 0) :
    outsAt2 V c t.val t.isLt = (out2_A_15 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t), out2_A_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t), out2_A_17 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t), out2_A_18 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 128 = 0) :
    outsAt2 V c t.val t.isLt = (out2_B_15 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_16 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_17 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (outsAt2 V c (t.val - 1) (Nat.lt_of_le_of_lt (Nat.sub_le _ _) t.isLt)).2.2.1 (outsAt2 V c (t.val - 1) (Nat.lt_of_le_of_lt (Nat.sub_le _ _) t.isLt)).2.2.2, out2_B_18 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => (outsAt2 V c t.val t.isLt).1
    | ⟨16, _⟩ => (outsAt2 V c t.val t.isLt).2.1
    | ⟨17, _⟩ => (outsAt2 V c t.val t.isLt).2.2.1
    | ⟨18, _⟩ => (outsAt2 V c t.val t.isLt).2.2.2
    | ⟨_ + 19, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = (outsAt2 V c t.val t.isLt).1 := by dsimp only [dat2]
theorem after2_16 (c : Dev nD) (t : Fin cfg2.N) : (dat2 V c).after 16 t = (outsAt2 V c t.val t.isLt).2.1 := by dsimp only [dat2]
theorem after2_17 (c : Dev nD) (t : Fin cfg2.N) : (dat2 V c).after 17 t = (outsAt2 V c t.val t.isLt).2.2.1 := by dsimp only [dat2]
theorem after2_18 (c : Dev nD) (t : Fin cfg2.N) : (dat2 V c).after 18 t = (outsAt2 V c t.val t.isLt).2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_17_B (c : Dev nD) (t : Fin cfg2.N) (h0 : ¬t.val % 128 = 0) (d) :
    (dat2 V c).before 17 t d = (outsAt2 V c (t.val - 1) (Nat.lt_of_le_of_lt (Nat.sub_le _ _) t.isLt)).2.2.1 := by
  have hN : t.val < 128 := lt_of_lt_of_eq t.isLt (show cfg2.N = 128 from N_2)
  rw [Dat.before_out_kept _ 17 rfl t (by omega) (Bool.eq_false_iff.mpr fun h => by have := (flush2_17 _).mp h; dsimp only at this; omega)
    (fun _ => rfl) (fun _ _ => rfl)]
  dsimp only [dat2]
theorem before2_18_B (c : Dev nD) (t : Fin cfg2.N) (h0 : ¬t.val % 128 = 0) (d) :
    (dat2 V c).before 18 t d = (outsAt2 V c (t.val - 1) (Nat.lt_of_le_of_lt (Nat.sub_le _ _) t.isLt)).2.2.2 := by
  have hN : t.val < 128 := lt_of_lt_of_eq t.isLt (show cfg2.N = 128 from N_2)
  rw [Dat.before_out_kept _ 18 rfl t (by omega) (Bool.eq_false_iff.mpr fun h => by have := (flush2_18 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t)
    ∗ owns (c : Thread nD τ) (ms2_15 t) fullShare ((dat2 V c).after 15 t)
    ∗ owns (c : Thread nD τ) (ms2_16 t) fullShare ((dat2 V c).after 16 t)
    ∗ owns (c : Thread nD τ) (ms2_17 t) fullShare ((dat2 V c).after 17 t)
    ∗ owns (c : Thread nD τ) (ms2_18 t) fullShare ((dat2 V c).after 18 t))

set_option maxHeartbeats 3200000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18]
  have hN : t.val < 128 := lt_of_lt_of_eq t.isLt (show cfg2.N = 128 from N_2)
  by_cases h0 : t.val % 128 = 0
  · rw [outsAt2_A V c t h0]
    unfold out2_A_15 out2_A_16 out2_A_17 out2_A_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun2_A c (grid2.coords t) _ _ _ _ _ _ _ _ _ _ _ _ _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover2_A_15 c _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover2_A_16 c _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover2_A_17 c _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover2_A_18 c _ _ _ _ _ _ _ _ _ _ _ _ _ _ _ _ _ _ _ _ _ _ _ _ _ _ _ _ _ _ _ _ _ _ _ _ _ _ _ _ _ _ _ _ _ _ _ _ _ _ _ _ _ _ _)
  · rw [outsAt2_B V c t h0]
    simp only [before2_17_B V c t h0, before2_18_B V c t h0]
    unfold out2_B_15 out2_B_16 out2_B_17 out2_B_18; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun2_B c (grid2.coords t) _ _ _ _ _ _ _ _ _ _ _ _ _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexact H17
    isplitl [H18]; · iexact H18
    iintro ⟨H0, H1, H2, H3, H4, H5, H6, H7, H8, H9, H10, H11, H12, H13, H14, ⟨%e15, H15⟩, ⟨%e16, H16⟩, ⟨%e17, H17⟩, ⟨%e18, H18⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover2_B_15 c _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover2_B_16 c _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover2_B_17 c _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H18
    ipureintro; exact View.read_writes_of_cover _ _ _ _ _ (cover2_B_18 c _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.MlpIdeal.Gen

end
-- ==== Proof.MlpIdealFrame.lean ====
/-
  The run of the program MlpIdeal: what every buffer holds at each boundary between its host operations and its four kernels, and
  that the whole program runs to its end leaving its arguments alone. Set up as for the other programs, over the third
  kernel's module.
-/
module

public import proofs.«01_k».proof.Proof.Gen.MlpIdeal.Frame.Region0
public import proofs.«01_k».proof.Proof.Gen.MlpIdeal.Frame.Region1
public import proofs.«01_k».proof.Proof.Gen.MlpIdeal.Frame.Region3
public import proofs.«01_k».proof.Proof.Gen.MlpIdeal.Frame.Hosts0
public import proofs.«01_k».proof.Proof.MlpIdealMid

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- The same read at the TensorCore's references (what region 2's proof data take). -/
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A reference that is none of region 2's OUTPUT arrays keeps its entry contents across it: an input window's
    array is never written back (`Dat.arrAt_in`, `A_eq2`); any other buffer is left as is. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same read at the TensorCore's references (region 2's exit contents). -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3` (region 3's entry). -/
abbrev W9 : Dev nD → Valuation τ sig (Elt F) := fun c => StableHlo.after hostOps3 (W8 m ρ c)
/-- A reference `hostOps3` does not write keeps its contents across it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)
/-- The same read at the TensorCore's references (what region 3's proof data take). -/
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- A reference that is none of region 3's OUTPUT arrays keeps its entry contents across it: an input window's
    array is never written back (`Dat.arrAt_in`, `A_eq3`); any other buffer is left as is. -/
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)
/-- The same read at the TensorCore's references (region 3's exit contents). -/
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
theorem W10_main_arg12 (c : Dev nD) : W10 m ρ c (Proc.devRef .tc main_arg12) = m ((c : Thread nD τ).loc main_arg12) :=
  W10_args m ρ c main_arg12 (by decide)
theorem W10_main_arg13 (c : Dev nD) : W10 m ρ c (Proc.devRef .tc main_arg13) = m ((c : Thread nD τ).loc main_arg13) :=
  W10_args m ρ c main_arg13 (by decide)
theorem W10_main_arg14 (c : Dev nD) : W10 m ρ c (Proc.devRef .tc main_arg14) = m ((c : Thread nD τ).loc main_arg14) :=
  W10_args m ρ c main_arg14 (by decide)
theorem W10_main_arg15 (c : Dev nD) : W10 m ρ c (Proc.devRef .tc main_arg15) = m ((c : Thread nD τ).loc main_arg15) :=
  W10_args m ρ c main_arg15 (by decide)
theorem W10_main_arg16 (c : Dev nD) : W10 m ρ c (Proc.devRef .tc main_arg16) = m ((c : Thread nD τ).loc main_arg16) :=
  W10_args m ρ c main_arg16 (by decide)
theorem W10_main_arg17 (c : Dev nD) : W10 m ρ c (Proc.devRef .tc main_arg17) = m ((c : Thread nD τ).loc main_arg17) :=
  W10_args m ρ c main_arg17 (by decide)
theorem W10_main_arg18 (c : Dev nD) : W10 m ρ c (Proc.devRef .tc main_arg18) = m ((c : Thread nD τ).loc main_arg18) :=
  W10_args m ρ c main_arg18 (by decide)
end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 2 (custom_call 2) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- REGION 3 (custom_call 3) over the thread state: entered from every unscoped buffer at `W9`, left at `W10`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) (A_eq3 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.MlpIdeal.Gen

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
set_option backward.isDefEq.respectTransparency.types false in
/-- THE FRAME: `Cert.quiescent_MlpIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W10_<arg>`;
    the kit shows every counter at zero except the TensorCores' unscoped ones, of which there are none. Proof.lean cites it at `Bits`:
    `theorem Cert.Proof.claim : Cert.Claim := ⟨Cert.MlpIdeal.Gen.facts, fun m ρ _ => Cert.MlpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h => h.1) (frame m ρ)

end Cert.MlpIdeal.Gen

end
-- ==== Proof.Model.lean ====
/-
  The mathematics of the point MLP over the extended reals, free of any program: linear layers on rows, batch
  normalisation over the 4096 groups of 32 neighbours as the reference writes it (mean of the squared deviations) and as
  the kernel folds it (sums of values and of squares, one scale and one shift per channel), and that the two agree on
  real values.
-/
module

public import Idealize.ShloMosaic.Lib.Pointwise
public import Idealize.ShloMosaic.Lib.IdealHost
public import Idealize.ShloMosaic.Lib.Pipeline.ValueKit

@[expose] public section

noncomputable section

namespace Cert.PointMlp

open Idealize.ShloMosaic

/-! ## Real values among the extended reals -/

/-- An extended real that is a real number. -/
def IsReal (x : EReal) : Prop := ∃ r : ℝ, x = (r : EReal)

namespace IsReal

theorem coe (r : ℝ) : IsReal (r : EReal) := ⟨r, rfl⟩
theorem zero : IsReal 0 := ⟨0, rfl⟩
theorem add {x y : EReal} : IsReal x → IsReal y → IsReal (x + y) := by
  rintro ⟨a, rfl⟩ ⟨b, rfl⟩; exact ⟨a + b, (EReal.coe_add a b).symm⟩
theorem sub {x y : EReal} : IsReal x → IsReal y → IsReal (x - y) := by
  rintro ⟨a, rfl⟩ ⟨b, rfl⟩; exact ⟨a - b, (EReal.coe_sub a b).symm⟩
theorem neg {x : EReal} : IsReal x → IsReal (-x) := by
  rintro ⟨a, rfl⟩; exact ⟨-a, (EReal.coe_neg a).symm⟩
theorem mul {x y : EReal} : IsReal x → IsReal y → IsReal (x * y) := by
  rintro ⟨a, rfl⟩ ⟨b, rfl⟩; exact ⟨a * b, (EReal.coe_mul a b).symm⟩
theorem max {x y : EReal} (hx : IsReal x) (hy : IsReal y) : IsReal (max x y) := by
  rcases max_choice x y with h | h <;> rw [h] <;> assumption
theorem sum {ι : Type} (s : Finset ι) (f : ι → EReal) (h : ∀ i ∈ s, IsReal (f i)) : IsReal (∑ i ∈ s, f i) := by
  classical
  induction s using Finset.induction_on with
  | empty => exact zero
  | insert a s ha ih =>
    rw [Finset.sum_insert ha]
    exact (h a (Finset.mem_insert_self a s)).add (ih fun i hi => h i (Finset.mem_insert_of_mem hi))
/-- A fold of maxima over real values from the least extended real: real if there is at least one value. -/
theorem fold_max {n : ℕ} (f : Fin (n + 1) → EReal) (h : ∀ i, IsReal (f i)) : IsReal (Finset.univ.fold Max.max ⊥ f) := by
  rw [show Finset.univ.fold Max.max ⊥ f = Finset.univ.sup f from rfl]
  obtain ⟨i, _, hi⟩ := Finset.exists_mem_eq_sup (Finset.univ : Finset (Fin (n + 1))) Finset.univ_nonempty f
  rw [hi]; exact h i

end IsReal

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a real that is not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The square root of a real that is not negative. -/
theorem sqrt_coe (a : ℝ) (ha : 0 ≤ a) : Ideal.sqrt (a : EReal) = ((Real.sqrt a : ℝ) : EReal) := by
  rw [Ideal.sqrt_coe, if_neg (not_lt.mpr ha)]

/-! ## The two printed constants -/

/-- The number of rows, 131072, as the programs write it. -/
abbrev rowsN : EReal := Ideal.ofBits .f32 0x48000000#32
/-- The constant under the square root, the float nearest to 1e-5. -/
abbrev eps : EReal := Ideal.ofBits .f32 0x3727C5AC#32

theorem rowsN_eq : rowsN = ((131072 : ℝ) : EReal) := by
  simp [rowsN, Ideal.ofBits, Ideal.ieee, -EReal.coe_mul]; norm_num

theorem eps_pos : ∃ e : ℝ, 0 < e ∧ eps = (e : EReal) := by
  refine ⟨_, ?_, by simp [eps, Ideal.ofBits, Ideal.ieee, -EReal.coe_mul]; rfl⟩
  positivity

/-- The word the maxima start from is the least extended real. -/
theorem ofBits_neg_inf : Ideal.ofBits .f32 0xFF800000#32 = ⊥ := by
  simp [Ideal.ofBits, Ideal.ieee]

/-! ## Linear layers and batch normalisation -/

/-- A linear layer on one row: `h · Wᵀ + b`. -/
def lin {n k : ℕ} (W : Fin n → Fin k → EReal) (b : Fin n → EReal) (h : Fin k → EReal) (o : Fin n) : EReal :=
  (∑ j, h j * W o j) + b o

theorem lin_real {n k : ℕ} {W : Fin n → Fin k → EReal} {b : Fin n → EReal} {h : Fin k → EReal} (hW : ∀ o j, IsReal (W o j))
    (hb : ∀ o, IsReal (b o)) (hh : ∀ j, IsReal (h j)) (o : Fin n) : IsReal (lin W b h o) :=
  (IsReal.sum _ _ fun j _ => (hh j).mul (hW o j)).add (hb o)

/-- The row of the flattened arrays that holds neighbour `k` of group `g`. -/
def row (g : Fin 4096) (k : Fin 32) : Fin 131072 := ⟨g.val * 32 + k.val, by omega⟩

/-- One channel of a layer's output: a value per group and neighbour. -/
abbrev Chan := Fin 4096 → Fin 32 → EReal

/-- The sum of a channel. -/
def total (Z : Chan) : EReal := ∑ g, ∑ k, Z g k
/-- The sum over all rows is the sum over the groups and their neighbours. -/
theorem sum_rows (f : Fin 131072 → EReal) : ∑ r, f r = total fun g k => f (row g k) :=
  (Fin.sum_mul_add_fin (L := 131072) 4096 32 f).symm

/-- The sum over 128 tiles of 1024 rows each is the sum over all rows. -/
theorem sum_tiles {N : ℕ} (hN : N = 128) (f : Fin 131072 → EReal) :
    ∑ t : Fin N, ∑ i : Fin 1024, f ⟨t.val * 1024 + i.val, by omega⟩ = ∑ r, f r := by
  subst hN
  exact Fin.sum_mul_add_fin (L := 131072) 128 1024 f

/-- The mean of a channel. -/
def mean (Z : Chan) : EReal := Ideal.div (total Z) rowsN
/-- The variance of a channel: the mean of the squared deviations. -/
def var (Z : Chan) : EReal := Ideal.div (total fun g k => (Z g k - mean Z) * (Z g k - mean Z)) rowsN
/-- Batch normalisation of a channel with gain `ga` and offset `be`, as the reference writes it. -/
def bn (Z : Chan) (ga be : EReal) (g : Fin 4096) (k : Fin 32) : EReal :=
  Ideal.div (Z g k - mean Z) (Ideal.sqrt (var Z + eps)) * ga + be

/-- The kernel's scale of a channel, from the sums `s` of its values and `q` of their squares. -/
def foldScale (s q ga : EReal) : EReal :=
  Ideal.div ga (Ideal.sqrt (Ideal.div q rowsN - Ideal.div s rowsN * Ideal.div s rowsN + eps))
/-- The kernel's shift of a channel. -/
def foldShift (s q ga be : EReal) : EReal := be - Ideal.div s rowsN * foldScale s q ga

/-- Over the reals, the mean of the squares less the square of the mean is the mean of the squared deviations. -/
theorem real_var (z : Fin 4096 → Fin 32 → ℝ) (mu : ℝ) (hmu : mu = (∑ g, ∑ k, z g k) / 131072) :
    (∑ g, ∑ k, z g k * z g k) / 131072 - mu * mu = (∑ g, ∑ k, (z g k - mu) * (z g k - mu)) / 131072 := by
  have hs : (∑ g, ∑ k, z g k) = 131072 * mu := by rw [hmu]; ring
  have h : (∑ g, ∑ k, (z g k - mu) * (z g k - mu))
      = (∑ g, ∑ k, z g k * z g k) - 2 * mu * (∑ g, ∑ k, z g k) + 131072 * (mu * mu) := by
    have e : ∀ g k, (z g k - mu) * (z g k - mu) = z g k * z g k - 2 * mu * z g k + mu * mu := fun g k => by ring
    simp only [e, Finset.sum_add_distrib, Finset.sum_sub_distrib, Finset.mul_sum, Finset.sum_const, Finset.card_univ,
      Fintype.card_fin, nsmul_eq_mul]
    push_cast
    ring
  rw [h, hs]; ring

/-- What the reference and the kernel compute of a channel of real values: one real mean, one positive real
    deviation. -/
theorem stats (Z : Chan) (hZ : ∀ g k, IsReal (Z g k)) :
    ∃ mu sd : ℝ, 0 < sd ∧ mean Z = (mu : EReal) ∧ Ideal.sqrt (var Z + eps) = (sd : EReal)
      ∧ Ideal.sqrt (Ideal.div (total fun g k => Z g k * Z g k) rowsN - mean Z * mean Z + eps) = (sd : EReal) := by
  choose z hz using hZ
  obtain ⟨e, he, hee⟩ := eps_pos
  have hn : (131072 : ℝ) ≠ 0 := by norm_num
  have hm : mean Z = (((∑ g, ∑ k, z g k) / 131072 : ℝ) : EReal) := by
    simp only [mean, total, hz, ← coe_sum, rowsN_eq]; exact div_coe _ _ hn
  set mu : ℝ := (∑ g, ∑ k, z g k) / 131072 with hmu
  have hv : var Z = (((∑ g, ∑ k, (z g k - mu) * (z g k - mu)) / 131072 : ℝ) : EReal) := by
    simp only [var, total, hm, hz, ← EReal.coe_sub, ← EReal.coe_mul, ← coe_sum, rowsN_eq]; exact div_coe _ _ hn
  have hv0 : 0 ≤ (∑ g, ∑ k, (z g k - mu) * (z g k - mu)) / 131072 :=
    div_nonneg (Finset.sum_nonneg fun g _ => Finset.sum_nonneg fun k _ => mul_self_nonneg _) (by norm_num)
  have hq : Ideal.div (total fun g k => Z g k * Z g k) rowsN - mean Z * mean Z
      = (((∑ g, ∑ k, (z g k - mu) * (z g k - mu)) / 131072 : ℝ) : EReal) := by
    rw [← real_var z mu hmu, EReal.coe_sub, EReal.coe_mul, hm]
    congr 1
    simp only [total, hz, ← EReal.coe_mul, ← coe_sum, rowsN_eq]; exact div_coe _ _ hn
  refine ⟨mu, Real.sqrt ((∑ g, ∑ k, (z g k - mu) * (z g k - mu)) / 131072 + e), Real.sqrt_pos.mpr (by linarith), hm, ?_, ?_⟩
  · rw [hv, hee, ← EReal.coe_add, sqrt_coe _ (by linarith)]
  · rw [hq, hee, ← EReal.coe_add, sqrt_coe _ (by linarith)]

/-- The kernel's scale and shift give the reference's batch normalisation, on real values and at a real gain. -/
theorem fold_eq_bn (Z : Chan) (hZ : ∀ g k, IsReal (Z g k)) (ga be : EReal) (hga : IsReal ga) (g : Fin 4096) (k : Fin 32) :
    Z g k * foldScale (total Z) (total fun g k => Z g k * Z g k) ga
      + foldShift (total Z) (total fun g k => Z g k * Z g k) ga be = bn Z ga be g k := by
  obtain ⟨mu, sd, hsd, hm, hs, hs'⟩ := stats Z hZ
  obtain ⟨a, rfl⟩ := hga
  obtain ⟨z, hz⟩ := hZ g k
  have hsc : foldScale (total Z) (total fun g k => Z g k * Z g k) (a : EReal) = ((a / sd : ℝ) : EReal) := by
    unfold foldScale
    rw [show Ideal.div (total Z) rowsN = mean Z from rfl, hs', div_coe _ _ hsd.ne']
  unfold foldShift bn
  rw [show Ideal.div (total Z) rowsN = mean Z from rfl, hsc, hs, hm, hz, ← EReal.coe_sub, div_coe _ _ hsd.ne',
    ← EReal.coe_mul, ← EReal.coe_mul, ← EReal.coe_mul, sub_eq_add_neg, ← EReal.coe_neg]
  have h : (((z - mu) / sd * a : ℝ) : EReal) = ((z * (a / sd) : ℝ) : EReal) + ((-(mu * (a / sd)) : ℝ) : EReal) := by
    rw [← EReal.coe_add]; congr 1; field_simp; ring
  rw [h, add_assoc, add_comm be]

/-- Batch normalisation of real values at a real gain and offset is real. -/
theorem bn_real (Z : Chan) (hZ : ∀ g k, IsReal (Z g k)) {ga be : EReal} (hga : IsReal ga) (hbe : IsReal be)
    (g : Fin 4096) (k : Fin 32) : IsReal (bn Z ga be g k) := by
  obtain ⟨mu, sd, hsd, hm, hs, -⟩ := stats Z hZ
  obtain ⟨z, hz⟩ := hZ g k
  unfold bn
  rw [hs, hm, hz, ← EReal.coe_sub, div_coe _ _ hsd.ne']
  exact ((IsReal.coe _).mul hga).add hbe

/-! ## The network -/

/-- The channels of a layer: a value per group, neighbour and channel. -/
abbrev Layer (n : ℕ) := Fin 4096 → Fin 32 → Fin n → EReal

/-- The first layer: of the three offsets of a neighbour `p` from its centre `c`, and the three coordinates of the centre. -/
def layer1 {n : ℕ} (p : Layer 3) (c : Fin 4096 → Fin 3 → EReal) (W : Fin n → Fin 6 → EReal) (b : Fin n → EReal) : Layer n :=
  fun g k o => ((∑ j : Fin 3, (p g k j - c g j) * W o ⟨j.val, by omega⟩) + ∑ j : Fin 3, c g j * W o ⟨3 + j.val, by omega⟩) + b o

/-- A later layer: of the layer `Z` normalised with gains `ga` and offsets `be`, and cut at zero. -/
def layer {n m : ℕ} (Z : Layer m) (ga be : Fin m → EReal) (W : Fin n → Fin m → EReal) (b : Fin n → EReal) : Layer n :=
  fun g k o => lin W b (fun j => max (bn (fun g k => Z g k j) (ga j) (be j) g k) 0) o

/-- The maximum over a group's neighbours. -/
def group {n : ℕ} (H : Layer n) (g : Fin 4096) (o : Fin n) : EReal :=
  Finset.univ.fold max (Ideal.ofBits .f32 0xFF800000#32) fun k : Fin 32 => H g k o

/-- The fourth layer: of the group's maxima beside the third layer. -/
def layer4 {n : ℕ} (H : Layer 384) (W : Fin n → Fin 768 → EReal) (b : Fin n → EReal) : Layer n :=
  fun g k o => ((∑ j : Fin 384, group H g j * W o ⟨j.val, by omega⟩) + ∑ j : Fin 384, H g k j * W o ⟨384 + j.val, by omega⟩) + b o

/-- The whole network: five layers over the points and the centres of the groups, and the maxima of the last. -/
def network (p : Layer 3) (c : Fin 4096 → Fin 3 → EReal) (W1a : Fin 256 → Fin 6 → EReal) (b1a ga1a be1a : Fin 256 → EReal)
    (W1b : Fin 512 → Fin 256 → EReal) (b1b ga1b be1b : Fin 512 → EReal) (W1c : Fin 384 → Fin 512 → EReal)
    (b1c : Fin 384 → EReal) (W2a : Fin 768 → Fin 768 → EReal) (b2a ga2a be2a : Fin 768 → EReal)
    (W2b : Fin 384 → Fin 768 → EReal) (b2b : Fin 384 → EReal) (g : Fin 4096) (o : Fin 384) : EReal :=
  group (layer (layer4 (layer (layer (layer1 p c W1a b1a) ga1a be1a W1b b1b) ga1b be1b W1c b1c) W2a b2a) ga2a be2a W2b b2b)
    g o

end Cert.PointMlp

end
-- ==== Proof.HostReads.lean ====
/-
  Two host operations read at an index: the rows that a gather along the first axis takes, and a sum over the first two
  of three axes.
-/
module

public import proofs.«01_k».proof.Proof.Model

@[expose] public section

noncomputable section

namespace Cert.PointMlp

open Idealize.ShloMosaic

/-- The row that an index word names: read signed, and brought into the table's `N` rows. -/
def pick {N : ℕ} (hN : 0 < N) (w : BitVec 32) : Fin N := ⟨min w.toInt.toNat (N - 1), by omega⟩

/-- An index word below zero counts from the end of the 65536 points. -/
def wrap (w : BitVec 32) : BitVec 32 := Scalar.select (IntOp.cmpi .slt w 0#32) (IntOp.addi w 65536#32) w

/-- A gather of whole rows: entry `(r, y)` of the result is column `y` of the row that index `r` picks. -/
theorem take_rows {α : Type} {N C n : ℕ} (hN : 0 < N) (d : GatherDims ⟨2, ![N, C]⟩ ⟨2, ![n, 1]⟩ ⟨2, ![n, C]⟩)
    (ho : d.offsetDims = [1]) (hc : d.collapsedSliceDims = [0]) (hb : d.operandBatchingDims = [])
    (hs : d.startIndexMap = [0]) (hv : d.indexVectorDim = 1) (x : (⟨2, ![N, C]⟩ : Shape).Idx → α)
    (idx : IVec ⟨2, ![n, 1]⟩ 32) (r : Fin n) (y : Fin C) :
    Host.gather d x idx (ix2 r y) = x (ix2 (pick hN (idx (ix2 r 0))) y) := by
  have nb : ∀ a : Fin 2, a ∉ d.operandBatchingDims := fun a => by simp [hb]
  have m0 : (0 : Fin 2) ∈ d.startIndexMap := by simp [hs]
  have m1 : (1 : Fin 2) ∉ d.startIndexMap := by simp [hs]
  have k0 : (0 : Fin 2) ∉ d.sKept := fun h => ((d.mem_sKept 0).1 h).1 (by simp [hc])
  have k1 : (1 : Fin 2) ∈ d.sKept := (d.mem_sKept 1).2 ⟨by simp [hc], nb 1⟩
  have one : d.sliceSizes 0 = 1 := d.slice_collapsed 0 (by simp [hc])
  have kept : ∀ k ∈ d.batchDims, k = (0 : Fin 2) := fun k hk => by
    have : k ∉ d.offsetDims := of_decide_eq_true (List.mem_filter.1 hk).2
    rw [ho, List.mem_singleton] at this
    have h1 : k.val ≠ 1 := fun e => this (Fin.ext e)
    have h2 : k.val < 2 := k.isLt
    exact Fin.ext (by show k.val = 0; omega)
  have off : ∀ k ∈ d.offsetDims, k = (1 : Fin 2) := fun k hk => by rwa [ho, List.mem_singleton] at hk
  have at0 : ∀ k : Fin 2, k = 0 → (ix2 r y k).val = r.val := by rintro k rfl; rfl
  have at1 : ∀ k : Fin 2, k = 1 → (ix2 r y k).val = y.val := by rintro k rfl; rfl
  have src : ∀ h, d.siIdx (ix2 r y) ⟨d.startIndexMap.idxOf 0, h⟩ = ix2 r 0 := fun h => by
    funext b
    refine Fin.ext ?_
    match b with
    | ⟨0, _⟩ =>
      unfold GatherDims.siIdx
      rw [dif_neg (by simp [hv])]
      exact at0 _ (kept _ (List.getElem_mem _))
    | ⟨1, _⟩ =>
      unfold GatherDims.siIdx
      rw [dif_pos (by simp [hv])]
      show List.idxOf (0 : Fin 2) d.startIndexMap = 0
      simp [hs]
  refine congrArg x (funext fun a => Fin.ext ?_)
  match a with
  | ⟨0, _⟩ =>
    show d.start (ix2 r y) idx 0 + d.batchCoord (ix2 r y) 0 + d.offCoord (ix2 r y) 0
      = min (idx (ix2 r 0)).toInt.toNat (N - 1)
    rw [d.batchCoord_eq_zero _ _ (nb 0), d.offCoord_eq_zero _ _ k0]
    unfold GatherDims.start
    rw [dif_pos m0, src, one]
    rfl
  | ⟨1, _⟩ =>
    show d.start (ix2 r y) idx 1 + d.batchCoord (ix2 r y) 1 + d.offCoord (ix2 r y) 1 = y.val
    rw [d.batchCoord_eq_zero _ _ (nb 1)]
    unfold GatherDims.start GatherDims.offCoord
    rw [dif_neg m1, dif_pos k1]
    simpa using at1 _ (off _ (List.getElem_mem _))

/-- A sum over the indices that satisfy `p`, when those are the values of an injective `f`. -/
theorem sum_fibre {ι κ : Type} [Fintype ι] [Fintype κ] {p : ι → Prop} {_ : DecidablePred p} (f : κ → ι)
    (hf : Function.Injective f) (hp : ∀ i, p i ↔ ∃ k, f k = i) (v : ι → EReal) :
    ∑ i ∈ Finset.univ.filter p, v i = ∑ k, v (f k) :=
  by classical exact Finset.sum_filter_eq_sum_of_fiber p f hf hp v

/-- A host sum over the first two of three axes. -/
theorem sum_first_two {a b n : ℕ} (h : (⟨3, ![a, b, n]⟩ : Shape).ReducesTo [0, 1] ⟨1, ![n]⟩)
    (v : (⟨3, ![a, b, n]⟩ : Shape).Idx → EReal) (init : EReal) (j : (⟨1, ![n]⟩ : Shape).Idx) :
    Ideal.hostReduceAdd h v init j = init + ∑ g : Fin a, ∑ k : Fin b, v (ix3 g k (j 0)) := by
  have fib : ∀ i, h.drop i = j ↔ ∃ k : Fin a × Fin b, ix3 k.1 k.2 (j 0) = i := fun i => by
    constructor
    · intro e
      refine ⟨(i 0, i 1), funext fun c => Fin.ext ?_⟩
      match c with
      | ⟨0, _⟩ => rfl
      | ⟨1, _⟩ => rfl
      | ⟨2, _⟩ => exact (congrArg Fin.val (congrFun e 0)).symm
    · rintro ⟨k, rfl⟩
      funext c
      refine Fin.ext ?_
      match c with
      | ⟨0, _⟩ => rfl
  unfold Ideal.hostReduceAdd
  refine congrArg (init + ·) ?_
  refine (sum_fibre (fun k : Fin a × Fin b => ix3 k.1 k.2 (j 0)) (fun _ _ e => Prod.ext (congrFun e 0) (congrFun e 1)) fib v).trans ?_
  exact Fintype.sum_prod_type _

/-- A host maximum over the middle one of three axes. -/
theorem max_middle {a b n : ℕ} {u : Shape} (h : (⟨3, ![a, b, n]⟩ : Shape).ReducesTo [1] ⟨2, ![a, n]⟩)
    (v : FVec Ideal ⟨3, ![a, b, n]⟩ .f32) (init : FVec Ideal u .f32) (hu : 0 < u.numel) (g : Fin a) (o : Fin n) :
    Host.reduce (FloatOps.maximumf (F := Ideal) (φ := .f32)) v init h hu (ix2 g o)
      = (Finset.univ.fold max (init (Shape.Idx.first hu) : EReal) fun k : Fin b => (v (ix3 g k o) : EReal)) :=
  (Host.reduce_eq_fold _ v init h hu (ix2 g o)).trans (h.fold_fiber_r3_a1 (ix2 g o) (max : EReal → EReal → EReal) _ v)

end Cert.PointMlp

end
-- ==== Proof.Stretches.lean ====
/-
  What the host operations between the kernels leave in the buffers that the kernels read: the folded scales and shifts of
  the three batch normalisations, the rows of the offsets, the halves of the fourth layer's weights.
-/
module

public import proofs.«01_k».proof.Proof.Gen.MlpIdeal.Frame.Hosts0
public import proofs.«01_k».proof.Proof.HostReads
public import Idealize.ShloMosaic.Lib.StableHlo.ReadAt

@[expose] public section

set_option maxRecDepth 16384

noncomputable section

namespace Cert.MlpIdeal.Stretch

open Idealize.ShloMosaic Idealize.ShloMosaic.TcCoe Cert.MlpIdeal.Gen Cert.PointMlp

variable (U : Valuation τ sig (Elt Ideal))

/-- The first layer's weights, its six features padded with zeros to eight. -/
def weights6 (W : Vec Ideal S256x6 .f32) (o : Fin 256) (j : Fin 8) : EReal :=
  if h : j.val < 6 then W (ix2 o ⟨j.val, h⟩) else 0

/-- The centre of row `r`'s group as the kernels add it to the neighbours: negated in lanes 0 to 2, as it is in lanes 3 to 5, zero above. -/
def centres (C : Vec Ideal S32x128x8 .f32) (r : Fin 131072) (j : Fin 8) : EReal :=
  if j.val < 3 then (fun v : EReal => -v) (C (ix3 ⟨r.val / 32 / 128, by omega⟩ ⟨r.val / 32 % 128, by omega⟩ j))
  else if h : j.val < 6 then C (ix3 ⟨r.val / 32 / 128, by omega⟩ ⟨r.val / 32 % 128, by omega⟩ ⟨j.val - 3, by omega⟩)
  else 0

theorem v35 (o : Fin 256) : (StableHlo.after hostOps1 U (Proc.devRef .tc main_v35) : Vec Ideal S1x256 .f32) (ix2 0 o)
    = foldScale ((U (Proc.devRef .tc main_v22_0) : Vec Ideal S1x256 .f32) (ix2 0 o))
        ((U (Proc.devRef .tc main_v22_1) : Vec Ideal S1x256 .f32) (ix2 0 o))
        ((U (Proc.devRef .tc main_arg5) : Vec Ideal S256 .f32) (ix1 o)) := by
  unfold foldScale
  after_reads_at

theorem v38 (o : Fin 256) : (StableHlo.after hostOps1 U (Proc.devRef .tc main_v38) : Vec Ideal S1x256 .f32) (ix2 0 o)
    = foldShift ((U (Proc.devRef .tc main_v22_0) : Vec Ideal S1x256 .f32) (ix2 0 o))
        ((U (Proc.devRef .tc main_v22_1) : Vec Ideal S1x256 .f32) (ix2 0 o))
        ((U (Proc.devRef .tc main_arg5) : Vec Ideal S256 .f32) (ix1 o))
        ((U (Proc.devRef .tc main_arg6) : Vec Ideal S256 .f32) (ix1 o)) := by
  unfold foldShift foldScale
  after_reads_at

theorem v39 (o : Fin 256) : (StableHlo.after hostOps1 U (Proc.devRef .tc main_v39) : Vec Ideal S1x256 .f32) (ix2 0 o)
    = (U (Proc.devRef .tc main_arg4) : Vec Ideal S256 .f32) (ix1 o) := by
  after_reads_at

theorem v40 (o : Fin 512) : (StableHlo.after hostOps1 U (Proc.devRef .tc main_v40) : Vec Ideal S1x512 .f32) (ix2 0 o)
    = (U (Proc.devRef .tc main_arg8) : Vec Ideal S512 .f32) (ix1 o) := by
  after_reads_at

theorem v54 (o : Fin 512) : (StableHlo.after hostOps2 U (Proc.devRef .tc main_v54) : Vec Ideal S1x512 .f32) (ix2 0 o)
    = foldScale ((U (Proc.devRef .tc main_v41_0) : Vec Ideal S1x512 .f32) (ix2 0 o))
        ((U (Proc.devRef .tc main_v41_1) : Vec Ideal S1x512 .f32) (ix2 0 o))
        ((U (Proc.devRef .tc main_arg9) : Vec Ideal S512 .f32) (ix1 o)) := by
  unfold foldScale
  after_reads_at

theorem v57 (o : Fin 512) : (StableHlo.after hostOps2 U (Proc.devRef .tc main_v57) : Vec Ideal S1x512 .f32) (ix2 0 o)
    = foldShift ((U (Proc.devRef .tc main_v41_0) : Vec Ideal S1x512 .f32) (ix2 0 o))
        ((U (Proc.devRef .tc main_v41_1) : Vec Ideal S1x512 .f32) (ix2 0 o))
        ((U (Proc.devRef .tc main_arg9) : Vec Ideal S512 .f32) (ix1 o))
        ((U (Proc.devRef .tc main_arg10) : Vec Ideal S512 .f32) (ix1 o)) := by
  unfold foldShift foldScale
  after_reads_at

theorem v77 (o : Fin 768) : (StableHlo.after hostOps3 U (Proc.devRef .tc main_v77) : Vec Ideal S1x768 .f32) (ix2 0 o)
    = foldScale ((U (Proc.devRef .tc main_v64_2) : Vec Ideal S1x768 .f32) (ix2 0 o))
        ((U (Proc.devRef .tc main_v64_3) : Vec Ideal S1x768 .f32) (ix2 0 o))
        ((U (Proc.devRef .tc main_arg15) : Vec Ideal S768 .f32) (ix1 o)) := by
  unfold foldScale
  after_reads_at

theorem v80 (o : Fin 768) : (StableHlo.after hostOps3 U (Proc.devRef .tc main_v80) : Vec Ideal S1x768 .f32) (ix2 0 o)
    = foldShift ((U (Proc.devRef .tc main_v64_2) : Vec Ideal S1x768 .f32) (ix2 0 o))
        ((U (Proc.devRef .tc main_v64_3) : Vec Ideal S1x768 .f32) (ix2 0 o))
        ((U (Proc.devRef .tc main_arg15) : Vec Ideal S768 .f32) (ix1 o))
        ((U (Proc.devRef .tc main_arg16) : Vec Ideal S768 .f32) (ix1 o)) := by
  unfold foldShift foldScale
  after_reads_at

theorem v60 (o : Fin 256) : (StableHlo.after hostOps2 U (Proc.devRef .tc main_v60) : Vec Ideal S1x256 .f32) (ix2 0 o)
    = (U (Proc.devRef .tc main_arg4) : Vec Ideal S256 .f32) (ix1 o) := by
  after_reads_at

theorem v61 (o : Fin 512) : (StableHlo.after hostOps2 U (Proc.devRef .tc main_v61) : Vec Ideal S1x512 .f32) (ix2 0 o)
    = (U (Proc.devRef .tc main_arg8) : Vec Ideal S512 .f32) (ix1 o) := by
  after_reads_at

theorem v62 (o : Fin 384) : (StableHlo.after hostOps2 U (Proc.devRef .tc main_v62) : Vec Ideal S1x384 .f32) (ix2 0 o)
    = (U (Proc.devRef .tc main_arg12) : Vec Ideal S384 .f32) (ix1 o) := by
  after_reads_at

theorem v63 (o : Fin 768) : (StableHlo.after hostOps2 U (Proc.devRef .tc main_v63) : Vec Ideal S1x768 .f32) (ix2 0 o)
    = (U (Proc.devRef .tc main_arg14) : Vec Ideal S768 .f32) (ix1 o) := by
  after_reads_at

theorem v81 (o : Fin 768) : (StableHlo.after hostOps3 U (Proc.devRef .tc main_v81) : Vec Ideal S1x768 .f32) (ix2 0 o)
    = (U (Proc.devRef .tc main_arg14) : Vec Ideal S768 .f32) (ix1 o) := by
  after_reads_at

theorem v82 (o : Fin 384) : (StableHlo.after hostOps3 U (Proc.devRef .tc main_v82) : Vec Ideal S1x384 .f32) (ix2 0 o)
    = (U (Proc.devRef .tc main_arg18) : Vec Ideal S384 .f32) (ix1 o) := by
  after_reads_at

theorem v21 (o : Fin 256) : (StableHlo.after hostOps0_2 U (Proc.devRef .tc main_v21) : Vec Ideal S1x256 .f32) (ix2 0 o)
    = (U (Proc.devRef .tc main_arg4) : Vec Ideal S256 .f32) (ix1 o) := by
  after_reads_at

theorem v58 (o : Fin 768) (j : Fin 384) : (StableHlo.after hostOps2 U (Proc.devRef .tc main_v58) : Vec Ideal S768x384 .f32) (ix2 o j)
    = (U (Proc.devRef .tc main_arg13) : Vec Ideal S768x768 .f32) (ix2 o ⟨j.val, by omega⟩) := by
  after_reads_at

theorem v59 (o : Fin 768) (j : Fin 384) : (StableHlo.after hostOps2 U (Proc.devRef .tc main_v59) : Vec Ideal S768x384 .f32) (ix2 o j)
    = (U (Proc.devRef .tc main_arg13) : Vec Ideal S768x768 .f32) (ix2 o ⟨384 + j.val, by omega⟩) := by
  after_reads_at

theorem v20 (o : Fin 256) (j : Fin 8) :
    (StableHlo.after hostOps0_2 U (Proc.devRef .tc main_v20) : Vec Ideal S256x8 .f32) (ix2 o j)
      = weights6 (U (Proc.devRef .tc main_arg3)) o j := by
  unfold weights6
  after_reads_at
  split_ifs <;> after_reads_at
  all_goals first | omega | rfl | (congr 3; omega) | skip
  all_goals simp_all
  all_goals omega

theorem v16 (r : Fin 131072) (j : Fin 8) :
    (StableHlo.after hostOps0_2 U (Proc.devRef .tc main_v16) : Vec Ideal S131072x8 .f32) (ix2 r j)
      = centres (U (Proc.devRef .tc main_arg2)) r j := by
  unfold centres
  after_reads_at
  split_ifs <;> after_reads_at
  all_goals first | omega | rfl | (congr 3; omega) | skip
  all_goals simp_all
  all_goals first | omega | (congr 3; omega) | skip

theorem v9 (r : Fin 131072) (j : Fin 8) :
    (StableHlo.after hostOps0_2 U (Proc.devRef .tc main_v9) : Vec Ideal S131072x8 .f32) (ix2 r j)
      = (U (Proc.devRef .tc main_v1) : Vec Ideal S65536x8 .f32) (ix2 (pick (by decide) (wrap
          ((U (Proc.devRef .tc main_arg1) : IVec S32x128x32 32)
            (ix3 ⟨r.val / 4096, by omega⟩ ⟨r.val / 32 % 128, by omega⟩ ⟨r.val % 32, by omega⟩)))) j) := by
  after_reads_at
  rw [take_rows (N := 65536) (by decide) _ rfl rfl rfl rfl rfl]
  congr 3

theorem v1 (r : Fin 65536) (j : Fin 8) (hz : (U (Proc.devRef .tc main_c) : IVec S_ 32) = constantI S_ 32 0#32) :
    (StableHlo.after hostOps0_1 U (Proc.devRef .tc main_v1) : Vec Ideal S65536x8 .f32) (ix2 r j) =
      if h : j.val < 3 then (U (Proc.devRef .tc main_v0) : Vec Ideal S65536x3 .f32) (ix2 r ⟨j.val, h⟩) else (0 : EReal) := by
  after_reads_at
  rw [hz]
  pointwise
  split_ifs
  · rfl
  · show (((0#32 : BitVec 32).toInt : ℝ) : EReal) = 0
    simp

theorem c0 : (StableHlo.after hostOps0 U (Proc.devRef .tc main_c) : IVec S_ 32) = constantI S_ 32 0#32 := by
  after_results

theorem v0 (r : Fin 65536) (j : Fin 3) :
    (StableHlo.after hostOps0 U (Proc.devRef .tc main_v0) : Vec Ideal S65536x3 .f32) (ix2 r j) =
      (U (Proc.devRef .tc main_arg0) : Vec Ideal S32x2048x3 .f32) (ix3 ⟨r.val / 2048, by omega⟩ ⟨r.val % 2048, by omega⟩ j) := by
  after_reads_at

end Cert.MlpIdeal.Stretch

end
-- ==== Proof.Payloads.lean ====
/-
  What the four kernel bodies compute of their blocks, entry by entry over the extended reals, in the words of `Model`.
-/
module

public import proofs.«01_k».proof.Proof.Gen.MlpIdeal.Skeleton
public import proofs.«01_k».proof.Proof.Model

@[expose] public section

set_option maxRecDepth 16384

noncomputable section

namespace Cert.MlpIdeal

open Idealize.ShloMosaic Cert.MlpIdeal.Gen Cert.PointMlp

/-! ## The layers on the rows of whole arrays -/

namespace Rows

/-- The first layer at row `r`: of the sum of the two eight-lane arrays. -/
def z1 (nb cc : Vec Ideal S131072x8 .f32) (W : Vec Ideal S256x8 .f32) (b : Vec Ideal S1x256 .f32) (r : Fin 131072)
    (o : Fin 256) : EReal :=
  lin (fun o j => W (ix2 o j)) (fun o => b (ix2 0 o)) (fun j => nb (ix2 r j) + cc (ix2 r j)) o

/-- The second layer at row `r`, of the first layer `z` scaled, shifted and cut at zero. -/
def z2 (z : Fin 131072 → Fin 256 → EReal) (sc sh : Vec Ideal S1x256 .f32) (W : Vec Ideal S512x256 .f32)
    (b : Vec Ideal S1x512 .f32) (r : Fin 131072) (o : Fin 512) : EReal :=
  lin (fun o j => W (ix2 o j)) (fun o => b (ix2 0 o)) (fun j => max (z r j * sc (ix2 0 j) + sh (ix2 0 j)) 0) o

/-- The third layer at row `r`, of the second layer `z` scaled, shifted and cut at zero. -/
def h3 (z : Fin 131072 → Fin 512 → EReal) (sc sh : Vec Ideal S1x512 .f32) (W : Vec Ideal S384x512 .f32)
    (b : Vec Ideal S1x384 .f32) (r : Fin 131072) (o : Fin 384) : EReal :=
  lin (fun o j => W (ix2 o j)) (fun o => b (ix2 0 o)) (fun j => max (z r j * sc (ix2 0 j) + sh (ix2 0 j)) 0) o

/-- The maximum of `h` over the rows of group `g`. -/
def fg {n : ℕ} (h : Fin 131072 → Fin n → EReal) (g : Fin 4096) (o : Fin n) : EReal :=
  Finset.univ.fold max (Ideal.ofBits .f32 0xFF800000#32) fun k : Fin 32 => h (row g k) o

/-- The fourth layer at row `r`: the group's `f` through one half of the weights, the row's `h` through the other. -/
def z4 (h : Fin 131072 → Fin 384 → EReal) (f : Fin 4096 → Fin 384 → EReal) (Wf Wh : Vec Ideal S768x384 .f32)
    (b : Vec Ideal S1x768 .f32) (r : Fin 131072) (o : Fin 768) : EReal :=
  ((∑ j : Fin 384, f ⟨r.val / 32, by omega⟩ j * Wf (ix2 o j)) + ∑ j : Fin 384, h r j * Wh (ix2 o j)) + b (ix2 0 o)

/-- The fifth layer at row `r`, of the fourth layer `z` scaled, shifted and cut at zero. -/
def h5 (z : Fin 131072 → Fin 768 → EReal) (sc sh : Vec Ideal S1x768 .f32) (W : Vec Ideal S384x768 .f32)
    (b : Vec Ideal S1x384 .f32) (r : Fin 131072) (o : Fin 384) : EReal :=
  lin (fun o j => W (ix2 o j)) (fun o => b (ix2 0 o)) (fun j => max (z r j * sc (ix2 0 j) + sh (ix2 0 j)) 0) o

end Rows

/-! ## The bodies on their blocks -/

namespace Tile

/-- The first layer on a tile of rows. -/
theorem z1 (nb cc : Vec Ideal S1024x8 .f32) (W : Vec Ideal S256x8 .f32) (b : Vec Ideal S1x256 .f32) (i : Fin 1024) (o : Fin 256) :
    k0_pay3 nb cc W b (ix2 i o)
      = lin (fun o j => W (ix2 o j)) (fun o => b (ix2 0 o)) (fun j => nb (ix2 i j) + cc (ix2 i j)) o := by
  unfold lin
  pointwise [k0_pay3]

/-- The running column sums of the first layer. -/
theorem s1 (nb cc : Vec Ideal S1024x8 .f32) (W : Vec Ideal S256x8 .f32) (b acc : Vec Ideal S1x256 .f32) (y : S1x256.Idx) :
    k0_pay4 nb cc W b acc y = acc y + ∑ i : Fin 1024, k0_pay3 nb cc W b (ix2 i (y 1)) := by
  pointwise [k0_pay4]

/-- The running column sums of squares of the first layer. -/
theorem q1 (nb cc : Vec Ideal S1024x8 .f32) (W : Vec Ideal S256x8 .f32) (b acc : Vec Ideal S1x256 .f32) (y : S1x256.Idx) :
    k0_pay5 nb cc W b acc y
      = acc y + ∑ i : Fin 1024, k0_pay3 nb cc W b (ix2 i (y 1)) * k0_pay3 nb cc W b (ix2 i (y 1)) := by
  pointwise [k0_pay5]

theorem s1_zero : k0_pay1 (F := Ideal) = fun _ => 0 := by funext y; pointwise [k0_pay1]
theorem q1_zero : k0_pay2 (F := Ideal) = fun _ => 0 := by funext y; pointwise [k0_pay2]

/-- The second layer on a tile of rows, on the first layer's output scaled, shifted and cut at zero. -/
theorem z2 (nb cc : Vec Ideal S1024x8 .f32) (W : Vec Ideal S256x8 .f32) (b sc sh : Vec Ideal S1x256 .f32)
    (W' : Vec Ideal S512x256 .f32) (b' : Vec Ideal S1x512 .f32) (i : Fin 1024) (o : Fin 512) :
    k1_pay5 nb cc W b sc sh W' b' (ix2 i o)
      = lin (fun o j => W' (ix2 o j)) (fun o => b' (ix2 0 o))
          (fun j => max (lin (fun o j => W (ix2 o j)) (fun o => b (ix2 0 o)) (fun j => nb (ix2 i j) + cc (ix2 i j)) j
            * sc (ix2 0 j) + sh (ix2 0 j)) 0) o := by
  unfold lin
  pointwise [k1_pay5]

/-- The running column sums of the second layer. -/
theorem s2 (nb cc : Vec Ideal S1024x8 .f32) (W : Vec Ideal S256x8 .f32) (b sc sh : Vec Ideal S1x256 .f32)
    (W' : Vec Ideal S512x256 .f32) (b' acc : Vec Ideal S1x512 .f32) (y : S1x512.Idx) :
    k1_pay1 (k1_pay6 acc) (k1_pay7 nb cc W b sc sh W' b') y
      = acc y + ∑ i : Fin 1024, k1_pay5 nb cc W b sc sh W' b' (ix2 i (y 1)) := by
  pointwise [k1_pay1, k1_pay6, k1_pay7]

/-- The running column sums of squares of the second layer. -/
theorem q2 (z : FVec Ideal S1024x512 .f32) (acc : Vec Ideal S1x512 .f32) (y : S1x512.Idx) :
    k1_pay2 z acc y = acc y + ∑ i : Fin 1024, z (ix2 i (y 1)) * z (ix2 i (y 1)) := by
  pointwise [k1_pay2]

theorem s2_zero : k1_pay3 (F := Ideal) = fun _ => 0 := by funext y; pointwise [k1_pay3]
theorem q2_zero : k1_pay4 (F := Ideal) = fun _ => 0 := by funext y; pointwise [k1_pay4]

/-- The third layer on a tile of rows. -/
theorem h3 (nb cc : Vec Ideal S1024x8 .f32) (W : Vec Ideal S256x8 .f32) (b sc sh : Vec Ideal S1x256 .f32)
    (W' : Vec Ideal S512x256 .f32) (b' sc' sh' : Vec Ideal S1x512 .f32) (W'' : Vec Ideal S384x512 .f32)
    (b'' : Vec Ideal S1x384 .f32) (i : Fin 1024) (o : Fin 384) :
    k2_pay6 (k2_pay5 nb cc W b sc sh W' b' sc') sh' W'' b'' (ix2 i o)
      = lin (fun o j => W'' (ix2 o j)) (fun o => b'' (ix2 0 o))
          (fun j => max (k1_pay5 nb cc W b sc sh W' b' (ix2 i j) * sc' (ix2 0 j) + sh' (ix2 0 j)) 0) o := by
  unfold lin
  pointwise [k2_pay6, k2_pay5, k1_pay5]

/-- The maximum of the third layer over the 32 rows of a group. -/
theorem fg (z : FVec Ideal S1024x512 .f32) (sh' : Vec Ideal S1x512 .f32) (W'' : Vec Ideal S384x512 .f32)
    (b'' : Vec Ideal S1x384 .f32) (g : Fin 32) (o : Fin 384) :
    k2_pay7 z sh' W'' b'' (ix2 g o)
      = Finset.univ.fold max (Ideal.ofBits .f32 0xFF800000#32)
          fun k : Fin 32 => k2_pay6 z sh' W'' b'' (ix2 ⟨g.val * 32 + k.val, by omega⟩ o) := by
  pointwise [k2_pay7]

/-- The fourth layer on a tile of rows: the group's maximum through one half of the weights, the row through the
    other. -/
theorem z4 (z : FVec Ideal S1024x512 .f32) (sh' : Vec Ideal S1x512 .f32) (W'' : Vec Ideal S384x512 .f32)
    (b'' : Vec Ideal S1x384 .f32) (Wf Wh : Vec Ideal S768x384 .f32) (b2 : Vec Ideal S1x768 .f32) (i : Fin 1024) (o : Fin 768) :
    k2_pay8 z sh' W'' b'' Wf Wh b2 (ix2 i o)
      = ((∑ j : Fin 384, k2_pay7 z sh' W'' b'' (ix2 ⟨i.val / 32, by omega⟩ j) * Wf (ix2 o j))
          + ∑ j : Fin 384, k2_pay6 z sh' W'' b'' (ix2 i j) * Wh (ix2 o j)) + b2 (ix2 0 o) := by
  pointwise [k2_pay8]

/-- The running column sums of the fourth layer. -/
theorem s4 (z : FVec Ideal S1024x512 .f32) (sh' : Vec Ideal S1x512 .f32) (W'' : Vec Ideal S384x512 .f32)
    (b'' : Vec Ideal S1x384 .f32) (Wf Wh : Vec Ideal S768x384 .f32) (b2 acc : Vec Ideal S1x768 .f32) (y : S1x768.Idx) :
    k2_pay1 (k2_pay9 acc) (k2_pay10 z sh' W'' b'' Wf Wh b2) y
      = acc y + ∑ i : Fin 1024, k2_pay8 z sh' W'' b'' Wf Wh b2 (ix2 i (y 1)) := by
  pointwise [k2_pay1, k2_pay9, k2_pay10]

/-- The running column sums of squares of the fourth layer. -/
theorem q4 (z : FVec Ideal S1024x768 .f32) (acc : Vec Ideal S1x768 .f32) (y : S1x768.Idx) :
    k2_pay2 z acc y = acc y + ∑ i : Fin 1024, z (ix2 i (y 1)) * z (ix2 i (y 1)) := by
  pointwise [k2_pay2]

theorem s4_zero : k2_pay3 (F := Ideal) = fun _ => 0 := by funext y; pointwise [k2_pay3]
theorem q4_zero : k2_pay4 (F := Ideal) = fun _ => 0 := by funext y; pointwise [k2_pay4]

/-- The last kernel's tile: the fourth layer scaled, shifted and cut at zero, the fifth layer, and the maximum over a
    group's rows. -/
theorem out (fg : Vec Ideal S32x384 .f32) (Wf : Vec Ideal S768x384 .f32) (h : Vec Ideal S1024x384 .f32)
    (Wh : Vec Ideal S768x384 .f32) (b2 sc sh : Vec Ideal S1x768 .f32) (W : Vec Ideal S384x768 .f32) (b : Vec Ideal S1x384 .f32)
    (g : Fin 32) (o : Fin 384) :
    k3_pay1 (k3_pay2 fg Wf h Wh b2 sc sh W b) (ix2 g o)
      = Finset.univ.fold max (Ideal.ofBits .f32 0xFF800000#32) fun k : Fin 32 =>
          lin (fun o j => W (ix2 o j)) (fun o => b (ix2 0 o))
            (fun j => max ((((∑ l : Fin 384, fg (ix2 g l) * Wf (ix2 j l))
                + ∑ l : Fin 384, h (ix2 ⟨g.val * 32 + k.val, by omega⟩ l) * Wh (ix2 j l)) + b2 (ix2 0 j))
              * sc (ix2 0 j) + sh (ix2 0 j)) 0) o := by
  unfold lin
  pointwise [k3_pay1, k3_pay2]

end Tile

end Cert.MlpIdeal

end
-- ==== Proof.Reference.lean ====
/-
  What the reference computes, in the terms of the model: its layers at a group, a neighbour and a channel.
-/
module

public import proofs.«01_k».proof.Proof.HostReads
public import proofs.«01_k».proof.Proof.Gen.MlpRefIdeal.Run

@[expose] public section

set_option maxRecDepth 16384

noncomputable section

namespace Cert.MlpRefIdeal.Layers

open Idealize.ShloMosaic Idealize.ShloMosaic.TcCoe Cert.MlpRefIdeal Cert.MlpRefIdeal.Gen Cert.MlpRefIdeal.Value Cert.PointMlp

variable (U : Valuation τ sig (Elt Ideal))

/-- The neighbours that the reference takes. -/
def points (X : FVec Ideal S32x2048x3 .f32) (I : IVec S32x128x32 32) : Layer 3 := fun g k j =>
  let q : Fin 65536 := pick (by decide) (wrap (I (ix3 ⟨g.val / 128, by omega⟩ ⟨g.val % 128, by omega⟩ k)))
  X (ix3 ⟨q.val / 2048, by omega⟩ ⟨q.val % 2048, by omega⟩ j)

/-- The centres. -/
def centres (C : FVec Ideal S32x128x8 .f32) (g : Fin 4096) (j : Fin 3) : EReal :=
  C (ix3 ⟨g.val / 128, by omega⟩ ⟨g.val % 128, by omega⟩ ⟨j.val, by omega⟩)

/-- A gather of the points' rows. -/
theorem taken (x : FVec Ideal S65536x3 .f32) (idx : IVec S131072x1 32) (r : Fin 131072) (y : Fin 3) :
    Host.gather gather_S65536x3_S131072x1_S131072x3_1_0_n_n_0_1_13 x idx (ix2 r y)
      = x (ix2 (pick (N := 65536) (by decide) (idx (ix2 r 0))) y) :=
  take_rows _ _ rfl rfl rfl rfl rfl _ _ _ _

/-- The number of rows less a correction of zero. -/
theorem count : (Ideal.ofBits .f32 0x48000000#32 : EReal) - (FloatOps.sitofp (F := Ideal) .f32 0#32 : EReal)
    = Ideal.ofBits .f32 0x48000000#32 := by
  have e : (FloatOps.sitofp (F := Ideal) .f32 0#32 : EReal) = ((0 : ℝ) : EReal) := by
    show (((0#32 : BitVec 32).toInt : ℝ) : EReal) = _
    simp
  rw [e]
  simp

theorem count_pos : (0 : EReal) < Ideal.ofBits .f32 0x48000000#32 := by
  show (0 : EReal) < rowsN
  rw [rowsN_eq]
  exact_mod_cast (by norm_num : (0 : ℝ) < 131072)

/-- The first layer. -/
theorem first (g : Fin 4096) (k : Fin 32) (o : Fin 256) :
    res_main_v22 U (ix3 g k o) = layer1 (points (U (Proc.devRef .tc main_arg0)) (U (Proc.devRef .tc main_arg1)))
      (centres (U (Proc.devRef .tc main_arg2))) (fun o j => (U (Proc.devRef .tc main_arg3) : FVec Ideal S256x6 .f32) (ix2 o j))
      (fun o => (U (Proc.devRef .tc main_arg4) : FVec Ideal S256 .f32) (ix1 o)) g k o := by
  unfold res_main_v22 layer1 points centres
  pointwise [taken, res_main_v0, res_main_v2, wrap]
  have e1 : (g.val / 128 * 4096 + g.val % 128 * 32 + k.val) / 4096 = g.val / 128 := by omega
  have e2 : (g.val / 128 * 4096 + g.val % 128 * 32 + k.val) / 32 % 128 = g.val % 128 := by omega
  simp only [e1, e2]

/-- The second layer. -/
theorem second (g : Fin 4096) (k : Fin 32) (o : Fin 512) :
    res_main_v47 U (ix3 g k o) = layer (fun g k o => (res_main_v22 U : FVec Ideal S4096x32x256 .f32) (ix3 g k o))
      (fun o => (U (Proc.devRef .tc main_arg5) : FVec Ideal S256 .f32) (ix1 o))
      (fun o => (U (Proc.devRef .tc main_arg6) : FVec Ideal S256 .f32) (ix1 o))
      (fun o j => (U (Proc.devRef .tc main_arg7) : FVec Ideal S512x256 .f32) (ix2 o j))
      (fun o => (U (Proc.devRef .tc main_arg8) : FVec Ideal S512 .f32) (ix1 o)) g k o := by
  unfold res_main_v47 layer lin bn mean var mean total res_main_call0_v5 res_main_call0_v8
  generalize res_main_v22 U = z
  pointwise [sum_first_two]
  simp only [count, if_pos count_pos]

/-- The third layer. -/
theorem third (g : Fin 4096) (k : Fin 32) (o : Fin 384) :
    res_main_v72 U (ix3 g k o) = layer (fun g k o => (res_main_v47 U : FVec Ideal S4096x32x512 .f32) (ix3 g k o))
      (fun o => (U (Proc.devRef .tc main_arg9) : FVec Ideal S512 .f32) (ix1 o))
      (fun o => (U (Proc.devRef .tc main_arg10) : FVec Ideal S512 .f32) (ix1 o))
      (fun o j => (U (Proc.devRef .tc main_arg11) : FVec Ideal S384x512 .f32) (ix2 o j))
      (fun o => (U (Proc.devRef .tc main_arg12) : FVec Ideal S384 .f32) (ix1 o)) g k o := by
  unfold res_main_v72 layer lin bn mean var mean total res_main_call2_v5 res_main_call2_v8
  generalize res_main_v47 U = z
  pointwise [sum_first_two]
  simp only [count, if_pos count_pos]

/-- The maxima of a layer of 384 channels over the groups. -/
theorem maxima (z : FVec Ideal S4096x32x384 .f32) (g : Fin 4096) (o : Fin 384) :
    (Host.reduce (α := Ideal .f32) (FloatOps.maximumf (F := Ideal) (φ := .f32)) z
      (constant (F := Ideal) S_ .f32 0xFF800000#32 : FVec Ideal S_ .f32)
      reducesTo_S4096x32x384_S4096x384_d1 h_S_ : FVec Ideal S4096x384 .f32) (ix2 g o)
      = group (fun g k o => (z (ix3 g k o) : EReal)) g o :=
  max_middle _ _ _ _ _ _

/-- A row of the joined array against the weights. -/
theorem joined_dot (C : FVec Ideal S4096x32x768 .f32) (W : FVec Ideal S768x768 .f32) (b : FVec Ideal S768 .f32)
    (g : Fin 4096) (k : Fin 32) (o : Fin 768) :
    (addf (Host.dotGeneral dot_S4096x32x768_S768x768_S4096x32x768_2_0_01_1_n_n none C
        (transpose S768x768 [1, 0] W transposes_S768x768_S768x768_1_0))
      (broadcastInDim S4096x32x768 ![0, 1, 2] bcast_S1x1x768_S4096x32x768_0_1_2
        (broadcastInDim S1x1x768 ![2] bcast_S768_S1x1x768_2 b)) : FVec Ideal S4096x32x768 .f32) (ix3 g k o)
      = (∑ j : Fin 768, (C (ix3 g k j) : EReal) * W (ix2 o j)) + b (ix1 o) := by
  pointwise

/-- The joined array: the group's maximum, then the row. -/
def joined (f : FVec Ideal S4096x384 .f32) (z : FVec Ideal S4096x32x384 .f32) : FVec Ideal S4096x32x768 .f32 :=
  concatenate S4096x32x768 2
    [⟨S4096x32x384, broadcastInDim S4096x32x384 ![0, 1, 2] bcast_S4096x1x384_S4096x32x384_0_1_2
      (broadcastInDim S4096x1x384 ![0, 2] bcast_S4096x384_S4096x1x384_0_2 f)⟩, ⟨S4096x32x384, z⟩]
    concatenates_S4096x32x384_S4096x32x384_S4096x32x768_d2

theorem joined_left (f : FVec Ideal S4096x384 .f32) (z : FVec Ideal S4096x32x384 .f32) (g : Fin 4096) (k : Fin 32)
    (j : Fin 384) (h : j.val < 768) : joined f z (ix3 g k ⟨j.val, h⟩) = f (ix2 g j) := by
  unfold joined
  pointwise

theorem joined_right (f : FVec Ideal S4096x384 .f32) (z : FVec Ideal S4096x32x384 .f32) (g : Fin 4096) (k : Fin 32)
    (j : Fin 384) (h : 384 + j.val < 768) : joined f z (ix3 g k ⟨384 + j.val, h⟩) = z (ix3 g k j) := by
  unfold joined
  pointwise

/-- The joined array against the weights is the fourth layer. -/
theorem joined_eq (z : FVec Ideal S4096x32x384 .f32) (W : FVec Ideal S768x768 .f32) (b : FVec Ideal S768 .f32)
    (g : Fin 4096) (k : Fin 32) (o : Fin 768) :
    (addf (Host.dotGeneral dot_S4096x32x768_S768x768_S4096x32x768_2_0_01_1_n_n none
        (joined (Host.reduce (α := Ideal .f32) (FloatOps.maximumf (F := Ideal) (φ := .f32)) z
          (constant (F := Ideal) S_ .f32 0xFF800000#32 : FVec Ideal S_ .f32)
          reducesTo_S4096x32x384_S4096x384_d1 h_S_) z)
        (transpose S768x768 [1, 0] W transposes_S768x768_S768x768_1_0))
      (broadcastInDim S4096x32x768 ![0, 1, 2] bcast_S1x1x768_S4096x32x768_0_1_2
        (broadcastInDim S1x1x768 ![2] bcast_S768_S1x1x768_2 b)) : FVec Ideal S4096x32x768 .f32) (ix3 g k o)
      = layer4 (fun g k o => (z (ix3 g k o) : EReal)) (fun o j => (W (ix2 o j) : EReal)) (fun o => (b (ix1 o) : EReal)) g k o := by
  rw [joined_dot]
  unfold layer4
  rw [Fin.sum_univ_add (a := 384) (b := 384)]
  refine congrArg (fun x : EReal => x + b (ix1 o)) ?_
  refine congrArg₂ (fun x y : EReal => x + y) (Finset.sum_congr rfl fun j _ => ?_) (Finset.sum_congr rfl fun j _ => ?_)
  · exact congrArg₂ (fun x y : EReal => x * y) ((joined_left _ _ g k j (by omega)).trans (maxima _ g j)) rfl
  · exact congrArg₂ (fun x y : EReal => x * y) (joined_right _ _ g k j (by omega)) rfl

/-- The fourth layer. -/
theorem fourth (g : Fin 4096) (k : Fin 32) (o : Fin 768) :
    res_main_v81 U (ix3 g k o) = layer4 (fun g k o => (res_main_v72 U : FVec Ideal S4096x32x384 .f32) (ix3 g k o))
      (fun o j => (U (Proc.devRef .tc main_arg13) : FVec Ideal S768x768 .f32) (ix2 o j))
      (fun o => (U (Proc.devRef .tc main_arg14) : FVec Ideal S768 .f32) (ix1 o)) g k o := by
  have e := joined_eq (res_main_v72 U) (U (Proc.devRef .tc main_arg13)) (U (Proc.devRef .tc main_arg14)) g k o
  unfold joined at e
  unfold res_main_v81
  exact e

/-- The fourth layer normalised and cut at zero, as the reference's operations have it. -/
def normed (z : FVec Ideal S4096x32x768 .f32) (ga be : FVec Ideal S768 .f32) : FVec Ideal S4096x32x768 .f32 :=
  maximumf (addf (mulf (Host.divf (subf z (broadcastInDim S4096x32x768 ![0, 1, 2] bcast_S1x1x768_S4096x32x768_0_1_2 (broadcastInDim S1x1x768 ![2] bcast_S768_S1x1x768_2 (Host.divf (Host.reduceAdd z (constant (F := Ideal) S_ .f32 0x00000000#32) reducesTo_S4096x32x768_S768_d0_1 h_S_) (broadcastInDim S768 ![] bcast_S_S768 (constant (F := Ideal) S_ .f32 0x48000000#32)))))) (broadcastInDim S4096x32x768 ![0, 1, 2] bcast_S1x1x768_S4096x32x768_0_1_2 (broadcastInDim S1x1x768 ![2] bcast_S768_S1x1x768_2 (Host.sqrt (addf (select (broadcastInDim S768 ![] bcast_S_S768 (cmpf .ogt (subf (F := Ideal) (φ := .f32) (constant (F := Ideal) S_ .f32 0x48000000#32) (sitofp (F := Ideal) .f32 (constantI S_ 32 0#32))) (constant (F := Ideal) S_ .f32 0x00000000#32))) (Host.divf (Host.reduceAdd (mulf (subf z (broadcastInDim S4096x32x768 ![0, 1, 2] bcast_S1x1x768_S4096x32x768_0_1_2 (Host.divf (broadcastInDim S1x1x768 ![2] bcast_S768_S1x1x768_2 (Host.reduceAdd z (constant (F := Ideal) S_ .f32 0x00000000#32) reducesTo_S4096x32x768_S768_d0_1 h_S_)) (broadcastInDim S1x1x768 ![] bcast_S_S1x1x768 (constant (F := Ideal) S_ .f32 0x48000000#32))))) (subf z (broadcastInDim S4096x32x768 ![0, 1, 2] bcast_S1x1x768_S4096x32x768_0_1_2 (Host.divf (broadcastInDim S1x1x768 ![2] bcast_S768_S1x1x768_2 (Host.reduceAdd z (constant (F := Ideal) S_ .f32 0x00000000#32) reducesTo_S4096x32x768_S768_d0_1 h_S_)) (broadcastInDim S1x1x768 ![] bcast_S_S1x1x768 (constant (F := Ideal) S_ .f32 0x48000000#32)))))) (constant (F := Ideal) S_ .f32 0x00000000#32) reducesTo_S4096x32x768_S768_d0_1 h_S_) (broadcastInDim S768 ![] bcast_S_S768 (subf (F := Ideal) (φ := .f32) (constant (F := Ideal) S_ .f32 0x48000000#32) (sitofp (F := Ideal) .f32 (constantI S_ 32 0#32))))) (broadcastInDim S768 ![] bcast_S_S768 (id (constant (F := Ideal) S_ .f32 0x7FC00000#32)))) (broadcastInDim S768 ![] bcast_S_S768 (constant (F := Ideal) S_ .f32 0x3727C5AC#32))))))) (broadcastInDim S4096x32x768 ![0, 1, 2] bcast_S1x1x768_S4096x32x768_0_1_2 (broadcastInDim S1x1x768 ![2] bcast_S768_S1x1x768_2 ga))) (broadcastInDim S4096x32x768 ![0, 1, 2] bcast_S1x1x768_S4096x32x768_0_1_2 (broadcastInDim S1x1x768 ![2] bcast_S768_S1x1x768_2 be))) (broadcastInDim S4096x32x768 ![] bcast_S_S4096x32x768 (constant (F := Ideal) S_ .f32 0x00000000#32))

/-- The normalised fourth layer. -/
theorem normed_eq (z : FVec Ideal S4096x32x768 .f32) (ga be : FVec Ideal S768 .f32) (g : Fin 4096) (k : Fin 32)
    (j : Fin 768) : normed z ga be (ix3 g k j)
      = max (bn (fun g k => (z (ix3 g k j) : EReal)) (ga (ix1 j)) (be (ix1 j)) g k) 0 := by
  unfold normed bn mean var mean total
  pointwise [sum_first_two]
  simp only [count, if_pos count_pos]

/-- A row of 768 channels against the last weights. -/
theorem last_dot (C : FVec Ideal S4096x32x768 .f32) (W : FVec Ideal S384x768 .f32) (b : FVec Ideal S384 .f32)
    (g : Fin 4096) (k : Fin 32) (o : Fin 384) :
    (addf (Host.dotGeneral dot_S4096x32x768_S768x384_S4096x32x384_2_0_01_1_n_n none C
        (transpose S768x384 [1, 0] W transposes_S384x768_S768x384_1_0))
      (broadcastInDim S4096x32x384 ![0, 1, 2] bcast_S1x1x384_S4096x32x384_0_1_2
        (broadcastInDim S1x1x384 ![2] bcast_S384_S1x1x384_2 b)) : FVec Ideal S4096x32x384 .f32) (ix3 g k o)
      = lin (fun o j => (W (ix2 o j) : EReal)) (fun o => (b (ix1 o) : EReal)) (fun j => (C (ix3 g k j) : EReal)) o := by
  unfold lin
  pointwise

/-- The fifth layer, as the reference's operations have it. -/
def last : FVec Ideal S4096x32x384 .f32 :=
  addf (Host.dotGeneral (F := Ideal) (φ₂ := .f32) dot_S4096x32x768_S768x384_S4096x32x384_2_0_01_1_n_n none (normed (res_main_v81 U) (U (Proc.devRef .tc main_arg15)) (U (Proc.devRef .tc main_arg16))) (transpose (α := Ideal .f32) S768x384 [1, 0] (U (Proc.devRef .tc main_arg17) : FVec Ideal S384x768 .f32) transposes_S384x768_S768x384_1_0)) (broadcastInDim S4096x32x384 ![0, 1, 2] bcast_S1x1x384_S4096x32x384_0_1_2 (broadcastInDim S1x1x384 ![2] bcast_S384_S1x1x384_2 (U (Proc.devRef .tc main_arg18))))

/-- The fifth layer. -/
theorem fifth (g : Fin 4096) (k : Fin 32) (o : Fin 384) :
    last U (ix3 g k o) = layer (fun g k o => (res_main_v81 U : FVec Ideal S4096x32x768 .f32) (ix3 g k o))
      (fun o => (U (Proc.devRef .tc main_arg15) : FVec Ideal S768 .f32) (ix1 o))
      (fun o => (U (Proc.devRef .tc main_arg16) : FVec Ideal S768 .f32) (ix1 o))
      (fun o j => (U (Proc.devRef .tc main_arg17) : FVec Ideal S384x768 .f32) (ix2 o j))
      (fun o => (U (Proc.devRef .tc main_arg18) : FVec Ideal S384 .f32) (ix1 o)) g k o := by
  have e := last_dot (normed (res_main_v81 U) (U (Proc.devRef .tc main_arg15)) (U (Proc.devRef .tc main_arg16)))
    (U (Proc.devRef .tc main_arg17)) (U (Proc.devRef .tc main_arg18)) g k o
  unfold last
  refine e.trans ?_
  unfold layer
  exact congrArg (fun h => lin _ _ h o) (funext fun j => normed_eq _ _ _ g k j)

/-- The reference's result: the five layers, one after another. -/
theorem result (g : Fin 4096) (o : Fin 384) :
    (Host.reduce (α := Ideal .f32) (FloatOps.maximumf (F := Ideal) (φ := .f32)) (last U)
      (constant (F := Ideal) S_ .f32 0xFF800000#32 : FVec Ideal S_ .f32)
      reducesTo_S4096x32x384_S4096x384_d1 h_S_ : FVec Ideal S4096x384 .f32) (ix2 g o)
    = network (points (U (Proc.devRef .tc main_arg0)) (U (Proc.devRef .tc main_arg1)))
      (centres (U (Proc.devRef .tc main_arg2)))
      (fun o j => (U (Proc.devRef .tc main_arg3) : FVec Ideal S256x6 .f32) (ix2 o j))
      (fun o => (U (Proc.devRef .tc main_arg4) : FVec Ideal S256 .f32) (ix1 o))
      (fun o => (U (Proc.devRef .tc main_arg5) : FVec Ideal S256 .f32) (ix1 o))
      (fun o => (U (Proc.devRef .tc main_arg6) : FVec Ideal S256 .f32) (ix1 o))
      (fun o j => (U (Proc.devRef .tc main_arg7) : FVec Ideal S512x256 .f32) (ix2 o j))
      (fun o => (U (Proc.devRef .tc main_arg8) : FVec Ideal S512 .f32) (ix1 o))
      (fun o => (U (Proc.devRef .tc main_arg9) : FVec Ideal S512 .f32) (ix1 o))
      (fun o => (U (Proc.devRef .tc main_arg10) : FVec Ideal S512 .f32) (ix1 o))
      (fun o j => (U (Proc.devRef .tc main_arg11) : FVec Ideal S384x512 .f32) (ix2 o j))
      (fun o => (U (Proc.devRef .tc main_arg12) : FVec Ideal S384 .f32) (ix1 o))
      (fun o j => (U (Proc.devRef .tc main_arg13) : FVec Ideal S768x768 .f32) (ix2 o j))
      (fun o => (U (Proc.devRef .tc main_arg14) : FVec Ideal S768 .f32) (ix1 o))
      (fun o => (U (Proc.devRef .tc main_arg15) : FVec Ideal S768 .f32) (ix1 o))
      (fun o => (U (Proc.devRef .tc main_arg16) : FVec Ideal S768 .f32) (ix1 o))
      (fun o j => (U (Proc.devRef .tc main_arg17) : FVec Ideal S384x768 .f32) (ix2 o j))
      (fun o => (U (Proc.devRef .tc main_arg18) : FVec Ideal S384 .f32) (ix1 o)) g o := by
  rw [maxima]
  unfold network
  refine congrArg (fun H => group H g o) (funext fun g => funext fun k => funext fun o => ?_)
  rw [fifth]
  refine congrArg (fun H => layer H _ _ _ _ g k o) (funext fun g => funext fun k => funext fun o => ?_)
  refine (fourth U g k o).trans ?_
  refine congrArg (fun H => layer4 H _ _ g k o) (funext fun g => funext fun k => funext fun o => ?_)
  refine (third U g k o).trans ?_
  refine congrArg (fun H => layer H _ _ _ _ g k o) (funext fun g => funext fun k => funext fun o => ?_)
  refine (second U g k o).trans ?_
  refine congrArg (fun H => layer H _ _ _ _ g k o) (funext fun g => funext fun k => funext fun o => ?_)
  exact first U g k o

end Cert.MlpRefIdeal.Layers

end
-- ==== Proof.Layers.lean ====
/-
  The kernels' layers are the model's: the rows' arithmetic of each kernel, at the contents it finds, against the layer it
  computes. The scale and the shift of a layer are the batch normalisation of the layer before, on real values.
-/
module

public import proofs.«01_k».proof.Proof.Stretches
public import proofs.«01_k».proof.Proof.Payloads
public import proofs.«01_k».proof.Proof.Reference

@[expose] public section

set_option maxRecDepth 16384

noncomputable section

namespace Cert.MlpIdeal.Layers

open Idealize.ShloMosaic Idealize.ShloMosaic.TcCoe Cert.MlpIdeal.Gen Cert.PointMlp

/-! ## Real layers -/

theorem layer1_real {n : ℕ} {p : Layer 3} {c : Fin 4096 → Fin 3 → EReal} {W : Fin n → Fin 6 → EReal} {b : Fin n → EReal}
    (hp : ∀ g k j, IsReal (p g k j)) (hc : ∀ g j, IsReal (c g j)) (hW : ∀ o j, IsReal (W o j)) (hb : ∀ o, IsReal (b o))
    (g : Fin 4096) (k : Fin 32) (o : Fin n) : IsReal (layer1 p c W b g k o) :=
  ((IsReal.sum _ _ fun j _ => ((hp g k j).sub (hc g j)).mul (hW o _)).add
    (IsReal.sum _ _ fun j _ => (hc g j).mul (hW o _))).add (hb o)

theorem layer_real {n d : ℕ} {Z : Layer d} {ga be : Fin d → EReal} {W : Fin n → Fin d → EReal} {b : Fin n → EReal}
    (hZ : ∀ g k o, IsReal (Z g k o)) (hga : ∀ j, IsReal (ga j)) (hbe : ∀ j, IsReal (be j)) (hW : ∀ o j, IsReal (W o j))
    (hb : ∀ o, IsReal (b o)) (g : Fin 4096) (k : Fin 32) (o : Fin n) : IsReal (layer Z ga be W b g k o) :=
  lin_real hW hb (fun j => (bn_real _ (fun g k => hZ g k j) (hga j) (hbe j) g k).max IsReal.zero) o

theorem group_real {n : ℕ} {H : Layer n} (hH : ∀ g k o, IsReal (H g k o)) (g : Fin 4096) (o : Fin n) :
    IsReal (group H g o) := by
  unfold group
  rw [ofBits_neg_inf]
  exact IsReal.fold_max _ fun k => hH g k o

theorem layer4_real {n : ℕ} {H : Layer 384} {W : Fin n → Fin 768 → EReal} {b : Fin n → EReal}
    (hH : ∀ g k o, IsReal (H g k o)) (hW : ∀ o j, IsReal (W o j)) (hb : ∀ o, IsReal (b o))
    (g : Fin 4096) (k : Fin 32) (o : Fin n) : IsReal (layer4 H W b g k o) :=
  ((IsReal.sum _ _ fun j _ => (group_real hH g j).mul (hW o _)).add
    (IsReal.sum _ _ fun j _ => (hH g k j).mul (hW o _))).add (hb o)

/-! ## The rows -/

/-- The eight lanes of the neighbours and of the centres, against the padded weights, are the first layer. -/
theorem z1_eq (p : Layer 3) (C : Vec Ideal S32x128x8 .f32) (A : Vec Ideal S256x6 .f32) (B : Fin 256 → EReal)
    (nb cc : Vec Ideal S131072x8 .f32) (W : Vec Ideal S256x8 .f32) (b : Vec Ideal S1x256 .f32)
    (hn : ∀ g k (j : Fin 8), nb (ix2 (row g k) j) = if h : j.val < 3 then p g k ⟨j.val, h⟩ else (0 : EReal))
    (hc : ∀ r j, cc (ix2 r j) = Stretch.centres C r j) (hW : ∀ o j, W (ix2 o j) = Stretch.weights6 A o j)
    (hb : ∀ o, b (ix2 0 o) = B o) (g : Fin 4096) (k : Fin 32) (o : Fin 256) :
    Rows.z1 nb cc W b (row g k) o
      = layer1 p (Cert.MlpRefIdeal.Layers.centres C) (fun o j => (A (ix2 o j) : EReal)) B g k o := by
  have e1 : (row g k).val / 32 = g.val := by show (g.val * 32 + k.val) / 32 = g.val; omega
  unfold Rows.z1 lin layer1 Cert.MlpRefIdeal.Layers.centres
  simp only [hn, hc, hW, hb, Stretch.centres, Stretch.weights6, e1, Fin.sum_univ_eight, Fin.sum_univ_three]
  simp [sub_eq_add_neg, add_assoc]

/-- A layer of the rows scaled and shifted is the layer of the model. -/
theorem lin_eq {n d : ℕ} (z : Fin 131072 → Fin d → EReal) (Z : Layer d) (hz : ∀ g k j, z (row g k) j = Z g k j)
    (hZ : ∀ g k j, IsReal (Z g k j)) (ga be sc sh : Fin d → EReal) (hga : ∀ j, IsReal (ga j))
    (hsc : ∀ j, sc j = foldScale (total fun g k => Z g k j) (total fun g k => Z g k j * Z g k j) (ga j))
    (hsh : ∀ j, sh j = foldShift (total fun g k => Z g k j) (total fun g k => Z g k j * Z g k j) (ga j) (be j))
    (W W' : Fin n → Fin d → EReal) (b b' : Fin n → EReal) (hW : ∀ o j, W o j = W' o j) (hb : ∀ o, b o = b' o)
    (g : Fin 4096) (k : Fin 32) (o : Fin n) :
    lin W b (fun j => max (z (row g k) j * sc j + sh j) 0) o = layer Z ga be W' b' g k o := by
  obtain rfl : W = W' := funext fun o => funext fun j => hW o j
  obtain rfl : b = b' := funext hb
  unfold layer
  refine congrArg (fun h => lin W b h o) (funext fun j => ?_)
  rw [hsc, hsh, hz, fold_eq_bn (fun g k => Z g k j) (fun g k => hZ g k j) (ga j) (be j) (hga j) g k]

/-- The two halves of the weights, the group's maxima through one and the row through the other, are the fourth layer. -/
theorem z4_eq (h : Fin 131072 → Fin 384 → EReal) (H : Layer 384) (hh : ∀ g k j, h (row g k) j = H g k j)
    (f : Fin 4096 → Fin 384 → EReal) (hf : ∀ g j, f g j = group H g j) (A : Vec Ideal S768x768 .f32)
    (B : Fin 768 → EReal) (Wf Wh : Vec Ideal S768x384 .f32) (b : Vec Ideal S1x768 .f32)
    (hWf : ∀ o (j : Fin 384), Wf (ix2 o j) = A (ix2 o ⟨j.val, by omega⟩))
    (hWh : ∀ o (j : Fin 384), Wh (ix2 o j) = A (ix2 o ⟨384 + j.val, by omega⟩)) (hb : ∀ o, b (ix2 0 o) = B o)
    (g : Fin 4096) (k : Fin 32) (o : Fin 768) :
    Rows.z4 h f Wf Wh b (row g k) o = layer4 H (fun o j => (A (ix2 o j) : EReal)) B g k o := by
  have e1 : (⟨(row g k).val / 32, by omega⟩ : Fin 4096) = g :=
    Fin.ext (by show (g.val * 32 + k.val) / 32 = g.val; omega)
  unfold Rows.z4 layer4
  simp only [e1, hh, hf, hWf, hWh, hb]

/-- The maxima over the rows of a group are the group's maxima. -/
theorem fg_eq {n : ℕ} (h : Fin 131072 → Fin n → EReal) (H : Layer n) (hh : ∀ g k j, h (row g k) j = H g k j)
    (g : Fin 4096) (o : Fin n) : Rows.fg h g o = group H g o := by
  unfold Rows.fg group
  simp only [hh]

/-- The sum of a channel over all rows. -/
theorem sum_eq {d : ℕ} (z : Fin 131072 → Fin d → EReal) (Z : Layer d) (hz : ∀ g k j, z (row g k) j = Z g k j) (j : Fin d) :
    ∑ r, z r j = total fun g k => Z g k j := by
  rw [sum_rows]; simp only [hz]

/-- The sum of the squares of a channel over all rows. -/
theorem sumsq_eq {d : ℕ} (z : Fin 131072 → Fin d → EReal) (Z : Layer d) (hz : ∀ g k j, z (row g k) j = Z g k j) (j : Fin d) :
    ∑ r, z r j * z r j = total fun g k => Z g k j * Z g k j := by
  rw [sum_rows fun r => z r j * z r j]; simp only [hz]

end Cert.MlpIdeal.Layers

end
-- ==== Proof.Region0.lean ====
/-
  What the first kernel leaves: per channel of the first layer, the sum over all rows and the sum of squares.
-/
module

public import proofs.«01_k».proof.Proof.Gen.MlpIdeal.Frame.Region0
public import proofs.«01_k».proof.Proof.Payloads

@[expose] public section

set_option maxRecDepth 16384

noncomputable section

namespace Cert.MlpIdeal.Region0

open Idealize.ShloMosaic Idealize.ShloMosaic.TcCoe Cert.MlpIdeal.Gen Cert.PointMlp

variable (V : (c : Dev nD) → (b : Ref sig .tc) → Buf (Elt Ideal) ((c : Thread nD τ).loc b))

/-- The first layer at row `r`, of the arrays the region finds. -/
abbrev Z (c : Dev nD) : Fin 131072 → Fin 256 → EReal :=
  Rows.z1 (V c main_v9) (V c main_v16) (V c main_v20) (V c main_v21)

/-- The grid's last point. -/
def tlast : Fin cfg0.N := ⟨127, by decide⟩

theorem idx : ∀ t : Fin cfg0.N, win0_0.index t = ![t.val, 0] ∧ win0_1.index t = ![t.val, 0]
    ∧ win0_2.index t = ![0, 0] ∧ win0_3.index t = ![0, 0] := by decide +kernel

/-- The tile's first layer is the rows' first layer. -/
theorem tile (c : Dev nD) (t : Fin cfg0.N) (i : Fin 1024) (o : Fin 256) (h : t.val * 1024 + i.val < 131072) :
    k0_pay3 (iblk0 V c 0 t) (iblk0 V c 1 t) (iblk0 V c 2 t) (iblk0 V c 3 t) (ix2 i o) = Z V c ⟨t.val * 1024 + i.val, h⟩ o := by
  obtain ⟨e0, e1, e2, e3⟩ := idx t
  rw [Tile.z1]
  unfold Z Rows.z1
  congr 1
  · funext o j; blk_ext [iblk0, e2]
  · funext o; blk_ext [iblk0, e3]
  · funext j; congr 1
    · blk_ext [iblk0, e0]
    · blk_ext [iblk0, e1]

/-- The sums. -/
theorem sums (c : Dev nD) :
    (dat0 V c).arrAt 4 cfg0.N = fun y : S1x256.Idx => ∑ r, Z V c r (y 1) := by
  refine (dat0 V c).arrAt_eq_of_after_last 4 tlast (by decide +kernel) _ fun y => ?_
  blk_simp
  rw [after0_4]
  show ((outsAt0 V c tlast.val tlast.isLt).1 y : EReal) = ∑ r, Z V c r (y 1)
  rw [Pipeline.eq_sum_fin_of_reset_step_apply_last (fun n h => (outsAt0 V c n h).1) 128 (fun _ => 0) _
    (fun t h j => by rw [outsAt0_A V c t h]; frame_out; rw [Tile.s1, Tile.s1_zero])
    (fun t h j => by rw [outsAt0_B V c t h]; frame_out; rw [Tile.s1])
    (le_of_eq N_0) tlast rfl y, zero_add]
  rw [← sum_tiles N_0 (fun r => Z V c r (y 1))]
  refine Finset.sum_congr rfl fun t _ => Finset.sum_congr rfl fun i _ => ?_
  exact tile V c t i _ _

/-- The sums of squares. -/
theorem squares (c : Dev nD) :
    (dat0 V c).arrAt 5 cfg0.N = fun y : S1x256.Idx => ∑ r, Z V c r (y 1) * Z V c r (y 1) := by
  refine (dat0 V c).arrAt_eq_of_after_last 5 tlast (by decide +kernel) _ fun y => ?_
  blk_simp
  rw [after0_5]
  show ((outsAt0 V c tlast.val tlast.isLt).2 y : EReal) = ∑ r, Z V c r (y 1) * Z V c r (y 1)
  rw [Pipeline.eq_sum_fin_of_reset_step_apply_last (fun n h => (outsAt0 V c n h).2) 128 (fun _ => 0) _
    (fun t h j => by rw [outsAt0_A V c t h]; frame_out; rw [Tile.q1, Tile.q1_zero])
    (fun t h j => by rw [outsAt0_B V c t h]; frame_out; rw [Tile.q1])
    (le_of_eq N_0) tlast rfl y, zero_add]
  rw [← sum_tiles N_0 (fun r => Z V c r (y 1) * Z V c r (y 1))]
  refine Finset.sum_congr rfl fun t _ => Finset.sum_congr rfl fun i _ => ?_
  exact congrArg₂ (· * ·) (tile V c t i _ _) (tile V c t i _ _)

end Cert.MlpIdeal.Region0

end
-- ==== Proof.TileRows.lean ====
/-
  The bodies on the tile of rows `1024 t` to `1024 t + 1023` compute the layers of the whole arrays at those rows.
-/
module

public import proofs.«01_k».proof.Proof.Payloads

@[expose] public section

set_option maxRecDepth 16384

noncomputable section

namespace Cert.MlpIdeal.Tile

open Idealize.ShloMosaic Cert.MlpIdeal.Gen Cert.PointMlp

/-- A tile holds the rows of `A` from row `1024 t` on. -/
def IsRows {n : ℕ} (t : ℕ) (A : Fin 131072 → Fin n → EReal) (a : Fin 1024 → Fin n → EReal) : Prop :=
  ∀ (i : Fin 1024) (j : Fin n) (h : t * 1024 + i.val < 131072), a i j = A ⟨t * 1024 + i.val, h⟩ j

section
variable {t : ℕ} {NB CC : Vec Ideal S131072x8 .f32} {nb cc : Vec Ideal S1024x8 .f32}
  (hn : IsRows t (fun r j => NB (ix2 r j)) fun i j => nb (ix2 i j))
  (hc : IsRows t (fun r j => CC (ix2 r j)) fun i j => cc (ix2 i j))
  (W : Vec Ideal S256x8 .f32) (b sc sh : Vec Ideal S1x256 .f32) (W' : Vec Ideal S512x256 .f32)
  (b' sc' sh' : Vec Ideal S1x512 .f32) (W'' : Vec Ideal S384x512 .f32) (b'' : Vec Ideal S1x384 .f32)
  (Wf Wh : Vec Ideal S768x384 .f32) (b2 : Vec Ideal S1x768 .f32)

include hn hc

theorem z1_rows : IsRows t (Rows.z1 NB CC W b) fun i j => k0_pay3 nb cc W b (ix2 i j) := fun i o h => by
  dsimp only; rw [z1]; unfold Rows.z1
  congr 1; funext j
  exact congrArg₂ (· + ·) (hn i j h) (hc i j h)

theorem z2_rows : IsRows t (Rows.z2 (Rows.z1 NB CC W b) sc sh W' b') fun i j => k1_pay5 nb cc W b sc sh W' b' (ix2 i j) :=
  fun i o h => by
    dsimp only; rw [z2]; unfold Rows.z2
    congr 1; funext j
    have e := z1_rows hn hc W b i j h
    dsimp only at e
    rw [← e, z1]

theorem h3_rows : IsRows t (Rows.h3 (Rows.z2 (Rows.z1 NB CC W b) sc sh W' b') sc' sh' W'' b'')
    fun i j => k2_pay6 (k2_pay5 nb cc W b sc sh W' b' sc') sh' W'' b'' (ix2 i j) := fun i o h => by
  dsimp only; rw [h3]; unfold Rows.h3
  congr 1; funext j
  have e := z2_rows hn hc W b sc sh W' b' i j h
  dsimp only at e
  rw [← e]

/-- The maximum over a group's rows. -/
theorem fg_rows (ht : t < 128) (g : Fin 32) (o : Fin 384) (h : t * 32 + g.val < 4096) :
    k2_pay7 (k2_pay5 nb cc W b sc sh W' b' sc') sh' W'' b'' (ix2 g o)
      = Rows.fg (Rows.h3 (Rows.z2 (Rows.z1 NB CC W b) sc sh W' b') sc' sh' W'' b'') ⟨t * 32 + g.val, h⟩ o := by
  rw [fg]; unfold Rows.fg
  congr 1; funext k
  have e := h3_rows hn hc W b sc sh W' b' sc' sh' W'' b'' ⟨g.val * 32 + k.val, by omega⟩ o (by dsimp only; omega)
  dsimp only at e
  rw [e]
  congr 1
  apply Fin.ext; dsimp only [row]; omega

theorem z4_rows (ht : t < 128) : IsRows t
    (Rows.z4 (Rows.h3 (Rows.z2 (Rows.z1 NB CC W b) sc sh W' b') sc' sh' W'' b'')
      (Rows.fg (Rows.h3 (Rows.z2 (Rows.z1 NB CC W b) sc sh W' b') sc' sh' W'' b'')) Wf Wh b2)
    fun i j => k2_pay8 (k2_pay5 nb cc W b sc sh W' b' sc') sh' W'' b'' Wf Wh b2 (ix2 i j) := fun i o h => by
  dsimp only; rw [z4]; unfold Rows.z4
  refine congrArg₂ (· + ·) (congrArg₂ (· + ·) ?_ ?_) rfl
  · refine Finset.sum_congr rfl fun j _ => ?_
    rw [fg_rows hn hc W b sc sh W' b' sc' sh' W'' b'' ht ⟨i.val / 32, by omega⟩ j (by dsimp only; omega)]
    congr 2
    apply Fin.ext; dsimp only; omega
  · refine Finset.sum_congr rfl fun j _ => ?_
    have e := h3_rows hn hc W b sc sh W' b' sc' sh' W'' b'' i j h
    dsimp only at e
    rw [← e]

end

/-- The last kernel's tile. -/
theorem out_rows {t : ℕ} (ht : t < 128) {F : Vec Ideal S4096x384 .f32} {f : Vec Ideal S32x384 .f32} {H : Vec Ideal S131072x384 .f32}
    {h : Vec Ideal S1024x384 .f32}
    (hf : ∀ (g : Fin 32) (j : Fin 384) (hg : t * 32 + g.val < 4096), f (ix2 g j) = F (ix2 ⟨t * 32 + g.val, hg⟩ j))
    (hh : IsRows t (fun r j => H (ix2 r j)) fun i j => h (ix2 i j))
    (Wf Wh : Vec Ideal S768x384 .f32) (b2 sc sh : Vec Ideal S1x768 .f32) (W : Vec Ideal S384x768 .f32)
    (b : Vec Ideal S1x384 .f32) (g : Fin 32) (o : Fin 384) (hg : t * 32 + g.val < 4096) :
    k3_pay1 (k3_pay2 f Wf h Wh b2 sc sh W b) (ix2 g o)
      = Rows.fg (Rows.h5 (Rows.z4 (fun r j => H (ix2 r j)) (fun g j => F (ix2 g j)) Wf Wh b2) sc sh W b)
          ⟨t * 32 + g.val, hg⟩ o := by
  rw [out]; unfold Rows.fg Rows.h5 Rows.z4
  congr 1; funext k
  congr 1; funext j
  refine congrArg₂ max (congrArg₂ (· + ·) (congrArg₂ (· * ·) (congrArg₂ (· + ·) (congrArg₂ (· + ·) ?_ ?_) rfl) rfl) rfl) rfl
  · refine Finset.sum_congr rfl fun l _ => ?_
    rw [hf g l hg]
    congr 3
    apply Fin.ext; dsimp only [row]; omega
  · refine Finset.sum_congr rfl fun l _ => ?_
    have e := hh ⟨g.val * 32 + k.val, by omega⟩ l (by dsimp only; omega)
    dsimp only at e
    rw [e]
    congr 3
    apply Fin.ext; dsimp only [row]; omega

end Cert.MlpIdeal.Tile

end
-- ==== Proof.Region1.lean ====
/-
  What the second kernel leaves: per channel of the second layer, the sum over all rows and the sum of squares.
-/
module

public import proofs.«01_k».proof.Proof.Gen.MlpIdeal.Frame.Region1
public import proofs.«01_k».proof.Proof.TileRows

@[expose] public section

set_option maxRecDepth 16384

noncomputable section

namespace Cert.MlpIdeal.Region1

open Idealize.ShloMosaic Idealize.ShloMosaic.TcCoe Cert.MlpIdeal.Gen Cert.PointMlp

variable (V : (c : Dev nD) → (b : Ref sig .tc) → Buf (Elt Ideal) ((c : Thread nD τ).loc b))

/-- The first layer at row `r`, of the arrays the region finds. -/
abbrev Z1 (c : Dev nD) : Fin 131072 → Fin 256 → EReal :=
  Rows.z1 (V c main_v9) (V c main_v16) (V c main_v20) (V c main_v39)

/-- The second layer at row `r`, of the arrays the region finds. -/
abbrev Z (c : Dev nD) : Fin 131072 → Fin 512 → EReal :=
  Rows.z2 (Z1 V c) (V c main_v35) (V c main_v38) (V c main_arg7) (V c main_v40)

/-- The grid's last point. -/
def tlast : Fin cfg1.N := ⟨127, by decide⟩

theorem idx : ∀ t : Fin cfg1.N, win1_0.index t = ![t.val, 0] ∧ win1_1.index t = ![t.val, 0]
    ∧ win1_2.index t = ![0, 0] ∧ win1_3.index t = ![0, 0] ∧ win1_4.index t = ![0, 0] ∧ win1_5.index t = ![0, 0]
    ∧ win1_6.index t = ![0, 0] ∧ win1_7.index t = ![0, 0] := by decide +kernel

/-! The windows that are whole arrays. -/

theorem w2 (c : Dev nD) (t : Fin cfg1.N) : iblk1 V c 2 t = (V c main_v20 : Vec Ideal S256x8 .f32) := by
  have e : win1_2.index t = ![0, 0] := (idx t).2.2.1
  funext y; blk_ext [iblk1, e]
theorem w3 (c : Dev nD) (t : Fin cfg1.N) : iblk1 V c 3 t = (V c main_v39 : Vec Ideal S1x256 .f32) := by
  have e : win1_3.index t = ![0, 0] := (idx t).2.2.2.1
  funext y; blk_ext [iblk1, e]
theorem w4 (c : Dev nD) (t : Fin cfg1.N) : iblk1 V c 4 t = (V c main_v35 : Vec Ideal S1x256 .f32) := by
  have e : win1_4.index t = ![0, 0] := (idx t).2.2.2.2.1
  funext y; blk_ext [iblk1, e]
theorem w5 (c : Dev nD) (t : Fin cfg1.N) : iblk1 V c 5 t = (V c main_v38 : Vec Ideal S1x256 .f32) := by
  have e : win1_5.index t = ![0, 0] := (idx t).2.2.2.2.2.1
  funext y; blk_ext [iblk1, e]
theorem w6 (c : Dev nD) (t : Fin cfg1.N) : iblk1 V c 6 t = (V c main_arg7 : Vec Ideal S512x256 .f32) := by
  have e : win1_6.index t = ![0, 0] := (idx t).2.2.2.2.2.2.1
  funext y; blk_ext [iblk1, e]
theorem w7 (c : Dev nD) (t : Fin cfg1.N) : iblk1 V c 7 t = (V c main_v40 : Vec Ideal S1x512 .f32) := by
  have e : win1_7.index t = ![0, 0] := (idx t).2.2.2.2.2.2.2
  funext y; blk_ext [iblk1, e]

/-- The windows of the two row arrays hold the tile's rows. -/
theorem rows0 (c : Dev nD) (t : Fin cfg1.N) :
    Tile.IsRows t.val (fun r j => (V c main_v9 : Vec Ideal S131072x8 .f32) (ix2 r j)) fun i j => iblk1 V c 0 t (ix2 i j) := by
  intro i j h
  have e : win1_0.index t = ![t.val, 0] := (idx t).1
  blk_ext [iblk1, e]
theorem rows1 (c : Dev nD) (t : Fin cfg1.N) :
    Tile.IsRows t.val (fun r j => (V c main_v16 : Vec Ideal S131072x8 .f32) (ix2 r j)) fun i j => iblk1 V c 1 t (ix2 i j) := by
  intro i j h
  have e : win1_1.index t = ![t.val, 0] := (idx t).2.1
  blk_ext [iblk1, e]

/-- The tile's second layer is the rows' second layer. -/
theorem tile (c : Dev nD) (t : Fin cfg1.N) (i : Fin 1024) (o : Fin 512) (h : t.val * 1024 + i.val < 131072) :
    k1_pay5 (iblk1 V c 0 t) (iblk1 V c 1 t) (iblk1 V c 2 t) (iblk1 V c 3 t) (iblk1 V c 4 t) (iblk1 V c 5 t) (iblk1 V c 6 t)
      (iblk1 V c 7 t) (ix2 i o) = Z V c ⟨t.val * 1024 + i.val, h⟩ o := by
  rw [w2, w3, w4, w5, w6, w7]
  exact Tile.z2_rows (rows0 V c t) (rows1 V c t) _ _ _ _ _ _ i o h

/-- The sums. -/
theorem sums (c : Dev nD) :
    (dat1 V c).arrAt 8 cfg1.N = fun y : S1x512.Idx => ∑ r, Z V c r (y 1) := by
  refine (dat1 V c).arrAt_eq_of_after_last 8 tlast (by decide +kernel) _ fun y => ?_
  blk_simp
  rw [after1_8]
  show ((outsAt1 V c tlast.val tlast.isLt).1 y : EReal) = ∑ r, Z V c r (y 1)
  rw [Pipeline.eq_sum_fin_of_reset_step_apply_last (fun n h => (outsAt1 V c n h).1) 128 (fun _ => 0) _
    (fun t h j => by rw [outsAt1_A V c t h]; frame_out; rw [Tile.s2, Tile.s2_zero])
    (fun t h j => by rw [outsAt1_B V c t h]; frame_out; rw [Tile.s2])
    (le_of_eq N_1) tlast rfl y, zero_add]
  rw [← sum_tiles N_1 (fun r => Z V c r (y 1))]
  refine Finset.sum_congr rfl fun t _ => Finset.sum_congr rfl fun i _ => ?_
  exact tile V c t i _ _

/-- The sums of squares. -/
theorem squares (c : Dev nD) :
    (dat1 V c).arrAt 9 cfg1.N = fun y : S1x512.Idx => ∑ r, Z V c r (y 1) * Z V c r (y 1) := by
  refine (dat1 V c).arrAt_eq_of_after_last 9 tlast (by decide +kernel) _ fun y => ?_
  blk_simp
  rw [after1_9]
  show ((outsAt1 V c tlast.val tlast.isLt).2 y : EReal) = ∑ r, Z V c r (y 1) * Z V c r (y 1)
  rw [Pipeline.eq_sum_fin_of_reset_step_apply_last (fun n h => (outsAt1 V c n h).2) 128 (fun _ => 0) _
    (fun t h j => by rw [outsAt1_A V c t h]; frame_out; rw [Tile.q2, Tile.q2_zero])
    (fun t h j => by rw [outsAt1_B V c t h]; frame_out; rw [Tile.q2])
    (le_of_eq N_1) tlast rfl y, zero_add]
  rw [← sum_tiles N_1 (fun r => Z V c r (y 1) * Z V c r (y 1))]
  refine Finset.sum_congr rfl fun t _ => Finset.sum_congr rfl fun i _ => ?_
  exact congrArg₂ (· * ·) (tile V c t i _ _) (tile V c t i _ _)

end Cert.MlpIdeal.Region1

end
-- ==== Proof.Region2.lean ====
/-
  What the third kernel leaves: the third layer of every row, its maxima over the groups, and per channel of the fourth
  layer the sum over all rows and the sum of squares.
-/
module

public import proofs.«01_k».proof.Proof.MlpIdealMid
public import proofs.«01_k».proof.Proof.TileRows

@[expose] public section

set_option maxRecDepth 16384

noncomputable section

namespace Cert.MlpIdeal.Region2

open Idealize.ShloMosaic Idealize.ShloMosaic.TcCoe Cert.MlpIdeal.Gen Cert.PointMlp

variable (V : (c : Dev nD) → (b : Ref sig .tc) → Buf (Elt Ideal) ((c : Thread nD τ).loc b))

/-- The first layer at row `r`, of the arrays the region finds. -/
abbrev Z1 (c : Dev nD) : Fin 131072 → Fin 256 → EReal :=
  Rows.z1 (V c main_v9) (V c main_v16) (V c main_v20) (V c main_v60)
/-- The second layer at row `r`. -/
abbrev Z2 (c : Dev nD) : Fin 131072 → Fin 512 → EReal :=
  Rows.z2 (Z1 V c) (V c main_v35) (V c main_v38) (V c main_arg7) (V c main_v61)
/-- The third layer at row `r`. -/
abbrev H3 (c : Dev nD) : Fin 131072 → Fin 384 → EReal :=
  Rows.h3 (Z2 V c) (V c main_v54) (V c main_v57) (V c main_arg11) (V c main_v62)
/-- The fourth layer at row `r`. -/
abbrev Z (c : Dev nD) : Fin 131072 → Fin 768 → EReal :=
  Rows.z4 (H3 V c) (Rows.fg (H3 V c)) (V c main_v58) (V c main_v59) (V c main_v63)

/-- The grid's last point. -/
def tlast : Fin cfg2.N := ⟨127, by decide⟩

theorem idx : ∀ t : Fin cfg2.N, win2_0.index t = ![t.val, 0] ∧ win2_1.index t = ![t.val, 0]
    ∧ win2_2.index t = ![0, 0] ∧ win2_3.index t = ![0, 0] ∧ win2_4.index t = ![0, 0] ∧ win2_5.index t = ![0, 0]
    ∧ win2_6.index t = ![0, 0] ∧ win2_7.index t = ![0, 0] ∧ win2_8.index t = ![0, 0] ∧ win2_9.index t = ![0, 0]
    ∧ win2_10.index t = ![0, 0] ∧ win2_11.index t = ![0, 0] ∧ win2_12.index t = ![0, 0] ∧ win2_13.index t = ![0, 0]
    ∧ win2_14.index t = ![0, 0] ∧ win2_15.index t = ![t.val, 0] ∧ win2_16.index t = ![t.val, 0] := by decide +kernel

/-! The windows that are whole arrays. -/

theorem w2 (c : Dev nD) (t : Fin cfg2.N) : iblk2 V c 2 t = (V c main_v20 : Vec Ideal S256x8 .f32) := by
  have e : win2_2.index t = ![0, 0] := (idx t).2.2.1
  funext y; blk_ext [iblk2, e]
theorem w3 (c : Dev nD) (t : Fin cfg2.N) : iblk2 V c 3 t = (V c main_v60 : Vec Ideal S1x256 .f32) := by
  have e : win2_3.index t = ![0, 0] := (idx t).2.2.2.1
  funext y; blk_ext [iblk2, e]
theorem w4 (c : Dev nD) (t : Fin cfg2.N) : iblk2 V c 4 t = (V c main_v35 : Vec Ideal S1x256 .f32) := by
  have e : win2_4.index t = ![0, 0] := (idx t).2.2.2.2.1
  funext y; blk_ext [iblk2, e]
theorem w5 (c : Dev nD) (t : Fin cfg2.N) : iblk2 V c 5 t = (V c main_v38 : Vec Ideal S1x256 .f32) := by
  have e : win2_5.index t = ![0, 0] := (idx t).2.2.2.2.2.1
  funext y; blk_ext [iblk2, e]
theorem w6 (c : Dev nD) (t : Fin cfg2.N) : iblk2 V c 6 t = (V c main_arg7 : Vec Ideal S512x256 .f32) := by
  have e : win2_6.index t = ![0, 0] := (idx t).2.2.2.2.2.2.1
  funext y; blk_ext [iblk2, e]
theorem w7 (c : Dev nD) (t : Fin cfg2.N) : iblk2 V c 7 t = (V c main_v61 : Vec Ideal S1x512 .f32) := by
  have e : win2_7.index t = ![0, 0] := (idx t).2.2.2.2.2.2.2.1
  funext y; blk_ext [iblk2, e]
theorem w8 (c : Dev nD) (t : Fin cfg2.N) : iblk2 V c 8 t = (V c main_v54 : Vec Ideal S1x512 .f32) := by
  have e : win2_8.index t = ![0, 0] := (idx t).2.2.2.2.2.2.2.2.1
  funext y; blk_ext [iblk2, e]
theorem w9 (c : Dev nD) (t : Fin cfg2.N) : iblk2 V c 9 t = (V c main_v57 : Vec Ideal S1x512 .f32) := by
  have e : win2_9.index t = ![0, 0] := (idx t).2.2.2.2.2.2.2.2.2.1
  funext y; blk_ext [iblk2, e]
theorem w10 (c : Dev nD) (t : Fin cfg2.N) : iblk2 V c 10 t = (V c main_arg11 : Vec Ideal S384x512 .f32) := by
  have e : win2_10.index t = ![0, 0] := (idx t).2.2.2.2.2.2.2.2.2.2.1
  funext y; blk_ext [iblk2, e]
theorem w11 (c : Dev nD) (t : Fin cfg2.N) : iblk2 V c 11 t = (V c main_v62 : Vec Ideal S1x384 .f32) := by
  have e : win2_11.index t = ![0, 0] := (idx t).2.2.2.2.2.2.2.2.2.2.2.1
  funext y; blk_ext [iblk2, e]
theorem w12 (c : Dev nD) (t : Fin cfg2.N) : iblk2 V c 12 t = (V c main_v58 : Vec Ideal S768x384 .f32) := by
  have e : win2_12.index t = ![0, 0] := (idx t).2.2.2.2.2.2.2.2.2.2.2.2.1
  funext y; blk_ext [iblk2, e]
theorem w13 (c : Dev nD) (t : Fin cfg2.N) : iblk2 V c 13 t = (V c main_v59 : Vec Ideal S768x384 .f32) := by
  have e : win2_13.index t = ![0, 0] := (idx t).2.2.2.2.2.2.2.2.2.2.2.2.2.1
  funext y; blk_ext [iblk2, e]
theorem w14 (c : Dev nD) (t : Fin cfg2.N) : iblk2 V c 14 t = (V c main_v63 : Vec Ideal S1x768 .f32) := by
  have e : win2_14.index t = ![0, 0] := (idx t).2.2.2.2.2.2.2.2.2.2.2.2.2.2.1
  funext y; blk_ext [iblk2, e]

/-- The windows of the two row arrays hold the tile's rows. -/
theorem rows0 (c : Dev nD) (t : Fin cfg2.N) :
    Tile.IsRows t.val (fun r j => (V c main_v9 : Vec Ideal S131072x8 .f32) (ix2 r j)) fun i j => iblk2 V c 0 t (ix2 i j) := by
  intro i j h
  have e : win2_0.index t = ![t.val, 0] := (idx t).1
  blk_ext [iblk2, e]
theorem rows1 (c : Dev nD) (t : Fin cfg2.N) :
    Tile.IsRows t.val (fun r j => (V c main_v16 : Vec Ideal S131072x8 .f32) (ix2 r j)) fun i j => iblk2 V c 1 t (ix2 i j) := by
  intro i j h
  have e : win2_1.index t = ![t.val, 0] := (idx t).2.1
  blk_ext [iblk2, e]

/-- The second layer of the tile, scaled, as the third layer takes it. -/
abbrev pre (c : Dev nD) (t : Fin cfg2.N) :=
  k2_pay5 (iblk2 V c 0 t) (iblk2 V c 1 t) (iblk2 V c 2 t) (iblk2 V c 3 t) (iblk2 V c 4 t) (iblk2 V c 5 t)
      (iblk2 V c 6 t) (iblk2 V c 7 t) (iblk2 V c 8 t)

/-- The third layer on the tile. -/
theorem layer3 (c : Dev nD) (t : Fin cfg2.N) : Tile.IsRows t.val (H3 V c)
    fun i j => k2_pay6 (pre V c t) (iblk2 V c 9 t) (iblk2 V c 10 t) (iblk2 V c 11 t) (ix2 i j) := by
  unfold pre
  rw [w2, w3, w4, w5, w6, w7, w8, w9, w10, w11]
  exact Tile.h3_rows (rows0 V c t) (rows1 V c t) _ _ _ _ _ _ _ _ _ _

/-- The maxima of the third layer on the tile. -/
theorem maxima3 (c : Dev nD) (t : Fin cfg2.N) (g : Fin 32) (o : Fin 384) (hg : t.val * 32 + g.val < 4096) :
    k2_pay7 (pre V c t) (iblk2 V c 9 t) (iblk2 V c 10 t) (iblk2 V c 11 t) (ix2 g o)
      = Rows.fg (H3 V c) ⟨t.val * 32 + g.val, hg⟩ o := by
  have ht : t.val < 128 := Nat.lt_of_lt_of_eq t.isLt N_2
  unfold pre
  rw [w2, w3, w4, w5, w6, w7, w8, w9, w10, w11]
  exact Tile.fg_rows (rows0 V c t) (rows1 V c t) _ _ _ _ _ _ _ _ _ _ ht g o hg

/-- The fourth layer on the tile. -/
theorem layer4 (c : Dev nD) (t : Fin cfg2.N) : Tile.IsRows t.val (Z V c)
    fun i j => k2_pay8 (pre V c t) (iblk2 V c 9 t) (iblk2 V c 10 t) (iblk2 V c 11 t) (iblk2 V c 12 t) (iblk2 V c 13 t)
      (iblk2 V c 14 t) (ix2 i j) := by
  have ht : t.val < 128 := Nat.lt_of_lt_of_eq t.isLt N_2
  unfold pre
  rw [w2, w3, w4, w5, w6, w7, w8, w9, w10, w11, w12, w13, w14]
  exact Tile.z4_rows (rows0 V c t) (rows1 V c t) _ _ _ _ _ _ _ _ _ _ _ _ _ ht

/-- Where the rows of a tile stand in the third layer's array. -/
theorem place15 (c : Dev nD) (t : Fin cfg2.N) (i : Fin 1024) (o : Fin 384) (h : t.val * 1024 + i.val < 131072) :
    ((View.whole main_v64_0).slice (win2_15.rect t)).emb (ix2 i o) = (ix2 ⟨t.val * 1024 + i.val, h⟩ o : S131072x384.Idx) := by
  have e : win2_15.index t = ![t.val, 0] := (idx t).2.2.2.2.2.2.2.2.2.2.2.2.2.2.2.1
  blk_ext [e]
/-- Where the maxima of a tile stand in their array. -/
theorem place16 (c : Dev nD) (t : Fin cfg2.N) (g : Fin 32) (o : Fin 384) (hg : t.val * 32 + g.val < 4096) :
    ((View.whole main_v64_1).slice (win2_16.rect t)).emb (ix2 g o) = (ix2 ⟨t.val * 32 + g.val, hg⟩ o : S4096x384.Idx) := by
  have e : win2_16.index t = ![t.val, 0] := (idx t).2.2.2.2.2.2.2.2.2.2.2.2.2.2.2.2
  blk_ext [e]

/-- What a tile leaves of the third layer. -/
theorem out15 (c : Dev nD) (t : Fin cfg2.N) : (outsAt2 V c t.val t.isLt).1
    = k2_pay6 (pre V c t) (iblk2 V c 9 t) (iblk2 V c 10 t) (iblk2 V c 11 t) := by
  by_cases h : t.val % 128 = 0
  · rw [outsAt2_A V c t h]; frame_out
  · rw [outsAt2_B V c t h]; frame_out
/-- What a tile leaves of the maxima. -/
theorem out16 (c : Dev nD) (t : Fin cfg2.N) : (outsAt2 V c t.val t.isLt).2.1
    = k2_pay7 (pre V c t) (iblk2 V c 9 t) (iblk2 V c 10 t) (iblk2 V c 11 t) := by
  by_cases h : t.val % 128 = 0
  · rw [outsAt2_A V c t h]; frame_out
  · rw [outsAt2_B V c t h]; frame_out

/-- The third layer of every row. -/
theorem third (c : Dev nD) : (dat2 V c).arrAt 15 cfg2.N = fun y : S131072x384.Idx => H3 V c (y 0) (y 1) := by
  refine (dat2 V c).arrAt_eq_of_covers 15 _ (by decide +kernel) fun t hf y => ?_
  have ht : t.val < 128 := Nat.lt_of_lt_of_eq t.isLt N_2
  blk_simp
  rw [after2_15, out15]
  idx_vars y
  rw [place15 c t y0 y1 (by omega)]
  exact layer3 V c t y0 y1 (by omega)

/-- The maxima of the third layer over every group. -/
theorem maxima (c : Dev nD) : (dat2 V c).arrAt 16 cfg2.N = fun y : S4096x384.Idx => Rows.fg (H3 V c) (y 0) (y 1) := by
  refine (dat2 V c).arrAt_eq_of_covers 16 _ (by decide +kernel) fun t hf y => ?_
  have ht : t.val < 128 := Nat.lt_of_lt_of_eq t.isLt N_2
  blk_simp
  rw [after2_16, out16]
  idx_vars y
  rw [place16 c t y0 y1 (by omega)]
  exact maxima3 V c t y0 y1 (by omega)

/-- The sums of the fourth layer over all rows. -/
theorem sums (c : Dev nD) : (dat2 V c).arrAt 17 cfg2.N = fun y : S1x768.Idx => ∑ r, Z V c r (y 1) := by
  refine (dat2 V c).arrAt_eq_of_after_last 17 tlast (by decide +kernel) _ fun y => ?_
  blk_simp
  rw [after2_17]
  show ((outsAt2 V c tlast.val tlast.isLt).2.2.1 y : EReal) = ∑ r, Z V c r (y 1)
  rw [Pipeline.eq_sum_fin_of_reset_step_apply_last (fun n h => (outsAt2 V c n h).2.2.1) 128 (fun _ => 0) _
    (fun t h j => by rw [outsAt2_A V c t h]; frame_out; rw [Tile.s4, Tile.s4_zero])
    (fun t h j => by rw [outsAt2_B V c t h]; frame_out; rw [Tile.s4])
    (le_of_eq N_2) tlast rfl y, zero_add]
  rw [← sum_tiles N_2 (fun r => Z V c r (y 1))]
  refine Finset.sum_congr rfl fun t _ => Finset.sum_congr rfl fun i _ => ?_
  exact layer4 V c t i _ _

/-- The sums of squares of the fourth layer over all rows. -/
theorem squares (c : Dev nD) :
    (dat2 V c).arrAt 18 cfg2.N = fun y : S1x768.Idx => ∑ r, Z V c r (y 1) * Z V c r (y 1) := by
  refine (dat2 V c).arrAt_eq_of_after_last 18 tlast (by decide +kernel) _ fun y => ?_
  blk_simp
  rw [after2_18]
  show ((outsAt2 V c tlast.val tlast.isLt).2.2.2 y : EReal) = ∑ r, Z V c r (y 1) * Z V c r (y 1)
  rw [Pipeline.eq_sum_fin_of_reset_step_apply_last (fun n h => (outsAt2 V c n h).2.2.2) 128 (fun _ => 0) _
    (fun t h j => by rw [outsAt2_A V c t h]; frame_out; rw [Tile.q4, Tile.q4_zero])
    (fun t h j => by rw [outsAt2_B V c t h]; frame_out; rw [Tile.q4])
    (le_of_eq N_2) tlast rfl y, zero_add]
  rw [← sum_tiles N_2 (fun r => Z V c r (y 1) * Z V c r (y 1))]
  refine Finset.sum_congr rfl fun t _ => Finset.sum_congr rfl fun i _ => ?_
  exact congrArg₂ (· * ·) (layer4 V c t i _ _) (layer4 V c t i _ _)

end Cert.MlpIdeal.Region2

end
-- ==== Proof.Region3.lean ====
/-
  What the fourth kernel leaves: the maximum over each group's rows of the fifth layer.
-/
module

public import proofs.«01_k».proof.Proof.Gen.MlpIdeal.Frame.Region3
public import proofs.«01_k».proof.Proof.TileRows

@[expose] public section

set_option maxRecDepth 16384

noncomputable section

namespace Cert.MlpIdeal.Region3

open Idealize.ShloMosaic Idealize.ShloMosaic.TcCoe Cert.MlpIdeal.Gen Cert.PointMlp

variable (V : (c : Dev nD) → (b : Ref sig .tc) → Buf (Elt Ideal) ((c : Thread nD τ).loc b))

/-- The fourth layer of the two arrays that the kernel before left, entry by entry. -/
def Z4 (h : Vec Ideal S131072x384 .f32) (f : Vec Ideal S4096x384 .f32) (Wf Wh : Vec Ideal S768x384 .f32)
    (b : Vec Ideal S1x768 .f32) : Fin 131072 → Fin 768 → EReal :=
  Rows.z4 (fun r j => h (ix2 r j)) (fun g j => f (ix2 g j)) Wf Wh b

/-- The fifth layer at row `r`, of the arrays the region finds. -/
abbrev H (c : Dev nD) : Fin 131072 → Fin 384 → EReal :=
  Rows.h5 (Z4 (V c main_v64_0) (V c main_v64_1) (V c main_v58) (V c main_v59) (V c main_v81)) (V c main_v77) (V c main_v80)
    (V c main_arg17) (V c main_v82)

theorem idx : ∀ t : Fin cfg3.N, win3_0.index t = ![t.val, 0] ∧ win3_1.index t = ![t.val, 0]
    ∧ win3_2.index t = ![0, 0] ∧ win3_3.index t = ![0, 0] ∧ win3_4.index t = ![0, 0] ∧ win3_5.index t = ![0, 0]
    ∧ win3_6.index t = ![0, 0] ∧ win3_7.index t = ![0, 0] ∧ win3_8.index t = ![0, 0] ∧ win3_9.index t = ![t.val, 0] := by
  decide +kernel

/-! The windows that are whole arrays. -/

theorem w2 (c : Dev nD) (t : Fin cfg3.N) : iblk3 V c 2 t = (V c main_v58 : Vec Ideal S768x384 .f32) := by
  have e : win3_2.index t = ![0, 0] := (idx t).2.2.1
  funext y; blk_ext [iblk3, e]
theorem w3 (c : Dev nD) (t : Fin cfg3.N) : iblk3 V c 3 t = (V c main_v59 : Vec Ideal S768x384 .f32) := by
  have e : win3_3.index t = ![0, 0] := (idx t).2.2.2.1
  funext y; blk_ext [iblk3, e]
theorem w4 (c : Dev nD) (t : Fin cfg3.N) : iblk3 V c 4 t = (V c main_v81 : Vec Ideal S1x768 .f32) := by
  have e : win3_4.index t = ![0, 0] := (idx t).2.2.2.2.1
  funext y; blk_ext [iblk3, e]
theorem w5 (c : Dev nD) (t : Fin cfg3.N) : iblk3 V c 5 t = (V c main_v77 : Vec Ideal S1x768 .f32) := by
  have e : win3_5.index t = ![0, 0] := (idx t).2.2.2.2.2.1
  funext y; blk_ext [iblk3, e]
theorem w6 (c : Dev nD) (t : Fin cfg3.N) : iblk3 V c 6 t = (V c main_v80 : Vec Ideal S1x768 .f32) := by
  have e : win3_6.index t = ![0, 0] := (idx t).2.2.2.2.2.2.1
  funext y; blk_ext [iblk3, e]
theorem w7 (c : Dev nD) (t : Fin cfg3.N) : iblk3 V c 7 t = (V c main_arg17 : Vec Ideal S384x768 .f32) := by
  have e : win3_7.index t = ![0, 0] := (idx t).2.2.2.2.2.2.2.1
  funext y; blk_ext [iblk3, e]
theorem w8 (c : Dev nD) (t : Fin cfg3.N) : iblk3 V c 8 t = (V c main_v82 : Vec Ideal S1x384 .f32) := by
  have e : win3_8.index t = ![0, 0] := (idx t).2.2.2.2.2.2.2.2.1
  funext y; blk_ext [iblk3, e]

/-- The windows of the third layer's rows and of the groups' maxima hold the tile's. -/
theorem rows0 (c : Dev nD) (t : Fin cfg3.N) :
    Tile.IsRows t.val (fun r j => (V c main_v64_0 : Vec Ideal S131072x384 .f32) (ix2 r j)) fun i j => iblk3 V c 0 t (ix2 i j) := by
  intro i j h
  have e : win3_0.index t = ![t.val, 0] := (idx t).1
  blk_ext [iblk3, e]
theorem groups (c : Dev nD) (t : Fin cfg3.N) (g : Fin 32) (j : Fin 384) (hg : t.val * 32 + g.val < 4096) :
    (iblk3 V c 1 t (ix2 g j) : EReal) = (V c main_v64_1 : Vec Ideal S4096x384 .f32) (ix2 ⟨t.val * 32 + g.val, hg⟩ j) := by
  have e : win3_1.index t = ![t.val, 0] := (idx t).2.1
  blk_ext [iblk3, e]

/-- The tile's maxima are the groups' maxima. -/
theorem tile (c : Dev nD) (t : Fin cfg3.N) (g : Fin 32) (o : Fin 384) (hg : t.val * 32 + g.val < 4096) :
    k3_pay1 (k3_pay2 (iblk3 V c 1 t) (iblk3 V c 2 t) (iblk3 V c 0 t) (iblk3 V c 3 t) (iblk3 V c 4 t) (iblk3 V c 5 t)
      (iblk3 V c 6 t) (iblk3 V c 7 t) (iblk3 V c 8 t)) (ix2 g o) = Rows.fg (H V c) ⟨t.val * 32 + g.val, hg⟩ o := by
  have ht : t.val < 128 := Nat.lt_of_lt_of_eq t.isLt N_3
  rw [w2, w3, w4, w5, w6, w7, w8]
  exact Tile.out_rows ht (groups V c t) (rows0 V c t) _ _ _ _ _ _ _ g o hg

/-- Where the maxima of a tile stand in the result. -/
theorem place (c : Dev nD) (t : Fin cfg3.N) (g : Fin 32) (o : Fin 384) (hg : t.val * 32 + g.val < 4096) :
    ((View.whole main_v83).slice (win3_9.rect t)).emb (ix2 g o) = (ix2 ⟨t.val * 32 + g.val, hg⟩ o : S4096x384.Idx) := by
  have e : win3_9.index t = ![t.val, 0] := (idx t).2.2.2.2.2.2.2.2.2
  blk_ext [e]

/-- The maxima. -/
theorem maxima (c : Dev nD) :
    (dat3 V c).arrAt 9 cfg3.N = fun y : S4096x384.Idx => Rows.fg (H V c) (y 0) (y 1) := by
  refine (dat3 V c).arrAt_eq_of_covers 9 _ (by decide +kernel) fun t hf y => ?_
  have ht : t.val < 128 := Nat.lt_of_lt_of_eq t.isLt N_3
  blk_simp
  rw [after3_9]
  frame_out
  idx_vars y
  rw [tile V c t y0 y1 (by omega), place c t y0 y1 (by omega)]
  rfl

end Cert.MlpIdeal.Region3

end
-- ==== Proof.Run.lean ====
/-
  The run of the program MlpIdeal with its result: the launch is that of the frame, and the last state is read at the result
  as well as at the arguments.
-/
module

public import proofs.«01_k».proof.Proof.MlpIdealFrame

@[expose] public section

set_option maxRecDepth 16384

noncomputable section

namespace Cert.MlpIdeal.Values

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result at what the last boundary holds there, and with the arguments as launched. -/
theorem run_values : θ_run defs (onTc (τ := τ) (main (F := F))) ⟨m, fun _ => 0, ρ⟩ (fun r => ∀ c : Dev nD,
      r.2.mem ((c.tc : Thread nD τ).loc main_v83) = W10 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => fun c =>
      ⟨h c _ (mem_uc main_v83 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.MlpIdeal.Values

end
-- ==== Proof.Values.lean ====
/-
  What the program MlpIdeal leaves in its result: the contents of its buffers, boundary by boundary, in the model's terms, from
  the arguments to the maxima of the fifth layer.
-/
module

public import proofs.«01_k».proof.Proof.Layers
public import proofs.«01_k».proof.Proof.Region0
public import proofs.«01_k».proof.Proof.Region1
public import proofs.«01_k».proof.Proof.Region2
public import proofs.«01_k».proof.Proof.Region3
public import proofs.«01_k».proof.Proof.Run

@[expose] public section

set_option maxRecDepth 16384

noncomputable section

namespace Cert.MlpIdeal.Values

open Idealize.ShloMosaic Idealize.ShloMosaic.TcCoe Cert.MlpIdeal.Gen Cert.PointMlp Cert.MlpIdeal.Layers

variable (m : (ℓ : Loc nD τ sig) → Buf (Elt Ideal) ℓ) (ρ : Dev nD → PrngReg) (c : Dev nD)

/-! ## The arguments and the layers -/

/-- The argument number 0. -/
def A0 : FVec Ideal S32x2048x3 .f32 := m ((c : Thread nD τ).loc main_arg0)
/-- The argument number 1. -/
def A1 : IVec S32x128x32 32 := m ((c : Thread nD τ).loc main_arg1)
/-- The argument number 2. -/
def A2 : FVec Ideal S32x128x8 .f32 := m ((c : Thread nD τ).loc main_arg2)
/-- The argument number 3. -/
def A3 : FVec Ideal S256x6 .f32 := m ((c : Thread nD τ).loc main_arg3)
/-- The argument number 4. -/
def A4 : FVec Ideal S256 .f32 := m ((c : Thread nD τ).loc main_arg4)
/-- The argument number 5. -/
def A5 : FVec Ideal S256 .f32 := m ((c : Thread nD τ).loc main_arg5)
/-- The argument number 6. -/
def A6 : FVec Ideal S256 .f32 := m ((c : Thread nD τ).loc main_arg6)
/-- The argument number 7. -/
def A7 : FVec Ideal S512x256 .f32 := m ((c : Thread nD τ).loc main_arg7)
/-- The argument number 8. -/
def A8 : FVec Ideal S512 .f32 := m ((c : Thread nD τ).loc main_arg8)
/-- The argument number 9. -/
def A9 : FVec Ideal S512 .f32 := m ((c : Thread nD τ).loc main_arg9)
/-- The argument number 10. -/
def A10 : FVec Ideal S512 .f32 := m ((c : Thread nD τ).loc main_arg10)
/-- The argument number 11. -/
def A11 : FVec Ideal S384x512 .f32 := m ((c : Thread nD τ).loc main_arg11)
/-- The argument number 12. -/
def A12 : FVec Ideal S384 .f32 := m ((c : Thread nD τ).loc main_arg12)
/-- The argument number 13. -/
def A13 : FVec Ideal S768x768 .f32 := m ((c : Thread nD τ).loc main_arg13)
/-- The argument number 14. -/
def A14 : FVec Ideal S768 .f32 := m ((c : Thread nD τ).loc main_arg14)
/-- The argument number 15. -/
def A15 : FVec Ideal S768 .f32 := m ((c : Thread nD τ).loc main_arg15)
/-- The argument number 16. -/
def A16 : FVec Ideal S768 .f32 := m ((c : Thread nD τ).loc main_arg16)
/-- The argument number 17. -/
def A17 : FVec Ideal S384x768 .f32 := m ((c : Thread nD τ).loc main_arg17)
/-- The argument number 18. -/
def A18 : FVec Ideal S384 .f32 := m ((c : Thread nD τ).loc main_arg18)

/-- The first layer, of the arguments. -/
def L1 : Layer 256 := layer1 (Cert.MlpRefIdeal.Layers.points (A0 m c) (A1 m c)) (Cert.MlpRefIdeal.Layers.centres (A2 m c))
  (fun o j => (A3 m c (ix2 o j) : EReal)) (fun o => (A4 m c (ix1 o) : EReal))
/-- The second layer. -/
def L2 : Layer 512 := layer (L1 m c) (fun o => (A5 m c (ix1 o) : EReal)) (fun o => (A6 m c (ix1 o) : EReal)) (fun o j => (A7 m c (ix2 o j) : EReal)) (fun o => (A8 m c (ix1 o) : EReal))
/-- The third layer. -/
def L3 : Layer 384 := layer (L2 m c) (fun o => (A9 m c (ix1 o) : EReal)) (fun o => (A10 m c (ix1 o) : EReal)) (fun o j => (A11 m c (ix2 o j) : EReal)) (fun o => (A12 m c (ix1 o) : EReal))
/-- The fourth layer. -/
def L4 : Layer 768 := layer4 (L3 m c) (fun o j => (A13 m c (ix2 o j) : EReal)) (fun o => (A14 m c (ix1 o) : EReal))
/-- The fifth layer. -/
def L5 : Layer 384 := layer (L4 m c) (fun o => (A15 m c (ix1 o) : EReal)) (fun o => (A16 m c (ix1 o) : EReal)) (fun o j => (A17 m c (ix2 o j) : EReal)) (fun o => (A18 m c (ix1 o) : EReal))

/-- The arguments that the layers before the last take are real. -/
structure RealArgs : Prop where
  r0 : ∀ y, IsReal (A0 m c y)
  r2 : ∀ y, IsReal (A2 m c y)
  r3 : ∀ y, IsReal (A3 m c y)
  r4 : ∀ y, IsReal (A4 m c y)
  r5 : ∀ y, IsReal (A5 m c y)
  r6 : ∀ y, IsReal (A6 m c y)
  r7 : ∀ y, IsReal (A7 m c y)
  r8 : ∀ y, IsReal (A8 m c y)
  r9 : ∀ y, IsReal (A9 m c y)
  r10 : ∀ y, IsReal (A10 m c y)
  r11 : ∀ y, IsReal (A11 m c y)
  r12 : ∀ y, IsReal (A12 m c y)
  r13 : ∀ y, IsReal (A13 m c y)
  r14 : ∀ y, IsReal (A14 m c y)
  r15 : ∀ y, IsReal (A15 m c y)

variable {m c}

theorem L1_real (h : RealArgs m c) (g : Fin 4096) (k : Fin 32) (o : Fin 256) : IsReal (L1 m c g k o) :=
  layer1_real (fun _ _ _ => h.r0 _) (fun _ _ => h.r2 _) (fun _ _ => h.r3 _) (fun _ => h.r4 _) g k o
theorem L2_real (h : RealArgs m c) (g : Fin 4096) (k : Fin 32) (o : Fin 512) : IsReal (L2 m c g k o) :=
  layer_real (L1_real h) (fun _ => h.r5 _) (fun _ => h.r6 _) (fun _ _ => h.r7 _) (fun _ => h.r8 _) g k o
theorem L3_real (h : RealArgs m c) (g : Fin 4096) (k : Fin 32) (o : Fin 384) : IsReal (L3 m c g k o) :=
  layer_real (L2_real h) (fun _ => h.r9 _) (fun _ => h.r10 _) (fun _ _ => h.r11 _) (fun _ => h.r12 _) g k o
theorem L4_real (h : RealArgs m c) (g : Fin 4096) (k : Fin 32) (o : Fin 768) : IsReal (L4 m c g k o) :=
  layer4_real (L3_real h) (fun _ _ => h.r13 _) (fun _ => h.r14 _) g k o

variable (m c)

/-! ## Before the first kernel -/

theorem at_v9 (g : Fin 4096) (k : Fin 32) (j : Fin 8) : (V3 m ρ c main_v9 : Vec Ideal S131072x8 .f32) (ix2 (row g k) j)
    = if h : j.val < 3 then Cert.MlpRefIdeal.Layers.points (A0 m c) (A1 m c) g k ⟨j.val, h⟩ else (0 : EReal) := by
  refine (Stretch.v9 (W2 m ρ c) (row g k) j).trans ?_
  refine (Stretch.v1 (W1 m ρ c) _ j (Stretch.c0 (W0 m ρ c))).trans ?_
  have e1 : (⟨(row g k).val / 4096, by omega⟩ : Fin 32) = ⟨g.val / 128, by omega⟩ :=
    Fin.ext (by show (g.val * 32 + k.val) / 4096 = g.val / 128; omega)
  have e2 : (⟨(row g k).val / 32 % 128, by omega⟩ : Fin 128) = ⟨g.val % 128, by omega⟩ :=
    Fin.ext (by show (g.val * 32 + k.val) / 32 % 128 = g.val % 128; omega)
  have e3 : (⟨(row g k).val % 32, by omega⟩ : Fin 32) = k :=
    Fin.ext (by show (g.val * 32 + k.val) % 32 = k.val; omega)
  rw [e1, e2, e3]
  have hI : W2 m ρ c (Proc.devRef .tc main_arg1) = A1 m c := W2_args m ρ c main_arg1 (by decide)
  rw [hI]
  by_cases h : j.val < 3
  · rw [dif_pos h, dif_pos h]
    exact Stretch.v0 (W0 m ρ c) _ ⟨j.val, h⟩
  · rw [dif_neg h, dif_neg h]

theorem at_v16 (r : Fin 131072) (j : Fin 8) : (V3 m ρ c main_v16 : Vec Ideal S131072x8 .f32) (ix2 r j)
    = Stretch.centres (A2 m c) r j := by
  refine (Stretch.v16 (W2 m ρ c) r j).trans ?_
  rw [show W2 m ρ c (Proc.devRef .tc main_arg2) = A2 m c from W2_args m ρ c main_arg2 (by decide)]

theorem at_v20 (o : Fin 256) (j : Fin 8) : (V3 m ρ c main_v20 : Vec Ideal S256x8 .f32) (ix2 o j)
    = Stretch.weights6 (A3 m c) o j := by
  refine (Stretch.v20 (W2 m ρ c) o j).trans ?_
  rw [show W2 m ρ c (Proc.devRef .tc main_arg3) = A3 m c from W2_args m ρ c main_arg3 (by decide)]

theorem keep5_v9 : V5 m ρ c main_v9 = V3 m ρ c main_v9 :=
  (W5_of m ρ c main_v9 (by decide)).trans (W4_of m ρ c main_v9 (by decide))
theorem keep7_v9 : V7 m ρ c main_v9 = V3 m ρ c main_v9 :=
  ((W7_of m ρ c main_v9 (by decide)).trans (W6_of m ρ c main_v9 (by decide))).trans (keep5_v9 m ρ c)
theorem keep5_v16 : V5 m ρ c main_v16 = V3 m ρ c main_v16 :=
  (W5_of m ρ c main_v16 (by decide)).trans (W4_of m ρ c main_v16 (by decide))
theorem keep7_v16 : V7 m ρ c main_v16 = V3 m ρ c main_v16 :=
  ((W7_of m ρ c main_v16 (by decide)).trans (W6_of m ρ c main_v16 (by decide))).trans (keep5_v16 m ρ c)
theorem keep5_v20 : V5 m ρ c main_v20 = V3 m ρ c main_v20 :=
  (W5_of m ρ c main_v20 (by decide)).trans (W4_of m ρ c main_v20 (by decide))
theorem keep7_v20 : V7 m ρ c main_v20 = V3 m ρ c main_v20 :=
  ((W7_of m ρ c main_v20 (by decide)).trans (W6_of m ρ c main_v20 (by decide))).trans (keep5_v20 m ρ c)
theorem keep7_v35 : V7 m ρ c main_v35 = V5 m ρ c main_v35 :=
  (W7_of m ρ c main_v35 (by decide)).trans (W6_of m ρ c main_v35 (by decide))
theorem keep7_v38 : V7 m ρ c main_v38 = V5 m ρ c main_v38 :=
  (W7_of m ρ c main_v38 (by decide)).trans (W6_of m ρ c main_v38 (by decide))
theorem keep9_v58 : V9 m ρ c main_v58 = V7 m ρ c main_v58 :=
  (W9_of m ρ c main_v58 (by decide)).trans (W8_of m ρ c main_v58 (by decide))
theorem keep9_v59 : V9 m ρ c main_v59 = V7 m ρ c main_v59 :=
  (W9_of m ρ c main_v59 (by decide)).trans (W8_of m ρ c main_v59 (by decide))

/-- The first layer as the kernel at boundary 3 computes it. -/
theorem z1_at3 (g : Fin 4096) (k : Fin 32) (o : Fin 256) :
    Rows.z1 (V3 m ρ c main_v9) (V3 m ρ c main_v16) (V3 m ρ c main_v20) (V3 m ρ c main_v21) (row g k) o = L1 m c g k o := by
  refine z1_eq _ (A2 m c) (A3 m c) _ _ _ _ _ (at_v9 m ρ c) (at_v16 m ρ c) (at_v20 m ρ c) (fun o => ?_) g k o
  exact (Stretch.v21 (W2 m ρ c) o).trans (congrFun (show W2 m ρ c (Proc.devRef .tc main_arg4) = A4 m c from W2_args m ρ c main_arg4 (by decide)) (ix1 o))

/-- The first layer as the kernel at boundary 5 computes it. -/
theorem z1_at5 (g : Fin 4096) (k : Fin 32) (o : Fin 256) :
    Rows.z1 (V5 m ρ c main_v9) (V5 m ρ c main_v16) (V5 m ρ c main_v20) (V5 m ρ c main_v39) (row g k) o = L1 m c g k o := by
  rw [keep5_v9, keep5_v16, keep5_v20]
  refine z1_eq _ (A2 m c) (A3 m c) _ _ _ _ _ (at_v9 m ρ c) (at_v16 m ρ c) (at_v20 m ρ c) (fun o => ?_) g k o
  exact (Stretch.v39 (W4 m ρ c) o).trans (congrFun (show W4 m ρ c (Proc.devRef .tc main_arg4) = A4 m c from W4_args m ρ c main_arg4 (by decide)) (ix1 o))

/-- The first layer as the kernel at boundary 7 computes it. -/
theorem z1_at7 (g : Fin 4096) (k : Fin 32) (o : Fin 256) :
    Rows.z1 (V7 m ρ c main_v9) (V7 m ρ c main_v16) (V7 m ρ c main_v20) (V7 m ρ c main_v60) (row g k) o = L1 m c g k o := by
  rw [keep7_v9, keep7_v16, keep7_v20]
  refine z1_eq _ (A2 m c) (A3 m c) _ _ _ _ _ (at_v9 m ρ c) (at_v16 m ρ c) (at_v20 m ρ c) (fun o => ?_) g k o
  exact (Stretch.v60 (W6 m ρ c) o).trans (congrFun (show W6 m ρ c (Proc.devRef .tc main_arg4) = A4 m c from W6_args m ρ c main_arg4 (by decide)) (ix1 o))

/-! ## The first kernel -/

theorem sums_at4 (o : Fin 256) : (W4 m ρ c (Proc.devRef .tc main_v22_0) : Vec Ideal S1x256 .f32) (ix2 0 o)
    = total fun g k => L1 m c g k o := by
  have e : W4 m ρ c (Proc.devRef .tc main_v22_0) = _ := (W4_arr m ρ c 4).trans (Region0.sums (V3 m ρ) c)
  exact (congrFun e (ix2 0 o)).trans (sum_eq (Region0.Z (V3 m ρ) c) (L1 m c) (z1_at3 m ρ c) o)

theorem squares_at4 (o : Fin 256) : (W4 m ρ c (Proc.devRef .tc main_v22_1) : Vec Ideal S1x256 .f32) (ix2 0 o)
    = total fun g k => L1 m c g k o * L1 m c g k o := by
  have e : W4 m ρ c (Proc.devRef .tc main_v22_1) = _ := (W4_arr m ρ c 5).trans (Region0.squares (V3 m ρ) c)
  exact (congrFun e (ix2 0 o)).trans (sumsq_eq (Region0.Z (V3 m ρ) c) (L1 m c) (z1_at3 m ρ c) o)

theorem at_v35 (o : Fin 256) : (V5 m ρ c main_v35 : Vec Ideal S1x256 .f32) (ix2 0 o)
    = foldScale (total fun g k => L1 m c g k o) (total fun g k => L1 m c g k o * L1 m c g k o) (A5 m c (ix1 o)) := by
  refine (Stretch.v35 (W4 m ρ c) o).trans ?_
  rw [sums_at4 m ρ c o, squares_at4 m ρ c o,
    show W4 m ρ c (Proc.devRef .tc main_arg5) = A5 m c from W4_args m ρ c main_arg5 (by decide)]
theorem at_v38 (o : Fin 256) : (V5 m ρ c main_v38 : Vec Ideal S1x256 .f32) (ix2 0 o)
    = foldShift (total fun g k => L1 m c g k o) (total fun g k => L1 m c g k o * L1 m c g k o) (A5 m c (ix1 o))
        (A6 m c (ix1 o)) := by
  refine (Stretch.v38 (W4 m ρ c) o).trans ?_
  rw [sums_at4 m ρ c o, squares_at4 m ρ c o,
    show W4 m ρ c (Proc.devRef .tc main_arg5) = A5 m c from W4_args m ρ c main_arg5 (by decide),
    show W4 m ρ c (Proc.devRef .tc main_arg6) = A6 m c from W4_args m ρ c main_arg6 (by decide)]

/-! ## The second kernel -/

/-- The second layer as the kernel at boundary 5 computes it. -/
theorem z2_at5 (h : RealArgs m c) (g : Fin 4096) (k : Fin 32) (o : Fin 512) :
    Rows.z2 (Region1.Z1 (V5 m ρ) c) (V5 m ρ c main_v35) (V5 m ρ c main_v38) (V5 m ρ c main_arg7) (V5 m ρ c main_v40) (row g k) o
      = L2 m c g k o := by
  exact lin_eq (Region1.Z1 (V5 m ρ) c) (L1 m c) (z1_at5 m ρ c) (L1_real h) _ _ _ _ (fun _ => h.r5 _) (at_v35 m ρ c) (at_v38 m ρ c) _ _ _ _
    (fun o j => congrFun (show W5 m ρ c (Proc.devRef .tc main_arg7) = A7 m c from W5_args m ρ c main_arg7 (by decide)) (ix2 o j))
    (fun o => (Stretch.v40 (W4 m ρ c) o).trans (congrFun (show W4 m ρ c (Proc.devRef .tc main_arg8) = A8 m c from W4_args m ρ c main_arg8 (by decide)) (ix1 o))) g k o

theorem sums_at6 (h : RealArgs m c) (o : Fin 512) : (W6 m ρ c (Proc.devRef .tc main_v41_0) : Vec Ideal S1x512 .f32) (ix2 0 o)
    = total fun g k => L2 m c g k o := by
  have e : W6 m ρ c (Proc.devRef .tc main_v41_0) = _ := (W6_arr m ρ c 8).trans (Region1.sums (V5 m ρ) c)
  exact (congrFun e (ix2 0 o)).trans (sum_eq (Region1.Z (V5 m ρ) c) (L2 m c) (z2_at5 m ρ c h) o)

theorem squares_at6 (h : RealArgs m c) (o : Fin 512) : (W6 m ρ c (Proc.devRef .tc main_v41_1) : Vec Ideal S1x512 .f32) (ix2 0 o)
    = total fun g k => L2 m c g k o * L2 m c g k o := by
  have e : W6 m ρ c (Proc.devRef .tc main_v41_1) = _ := (W6_arr m ρ c 9).trans (Region1.squares (V5 m ρ) c)
  exact (congrFun e (ix2 0 o)).trans (sumsq_eq (Region1.Z (V5 m ρ) c) (L2 m c) (z2_at5 m ρ c h) o)

theorem at_v54 (h : RealArgs m c) (o : Fin 512) : (V7 m ρ c main_v54 : Vec Ideal S1x512 .f32) (ix2 0 o)
    = foldScale (total fun g k => L2 m c g k o) (total fun g k => L2 m c g k o * L2 m c g k o) (A9 m c (ix1 o)) := by
  refine (Stretch.v54 (W6 m ρ c) o).trans ?_
  rw [sums_at6 m ρ c h o, squares_at6 m ρ c h o,
    show W6 m ρ c (Proc.devRef .tc main_arg9) = A9 m c from W6_args m ρ c main_arg9 (by decide)]
theorem at_v57 (h : RealArgs m c) (o : Fin 512) : (V7 m ρ c main_v57 : Vec Ideal S1x512 .f32) (ix2 0 o)
    = foldShift (total fun g k => L2 m c g k o) (total fun g k => L2 m c g k o * L2 m c g k o) (A9 m c (ix1 o))
        (A10 m c (ix1 o)) := by
  refine (Stretch.v57 (W6 m ρ c) o).trans ?_
  rw [sums_at6 m ρ c h o, squares_at6 m ρ c h o,
    show W6 m ρ c (Proc.devRef .tc main_arg9) = A9 m c from W6_args m ρ c main_arg9 (by decide),
    show W6 m ρ c (Proc.devRef .tc main_arg10) = A10 m c from W6_args m ρ c main_arg10 (by decide)]

/-! ## The third kernel -/

/-- The second layer as the kernel at boundary 7 computes it. -/
theorem z2_at7 (h : RealArgs m c) (g : Fin 4096) (k : Fin 32) (o : Fin 512) :
    Rows.z2 (Region2.Z1 (V7 m ρ) c) (V7 m ρ c main_v35) (V7 m ρ c main_v38) (V7 m ρ c main_arg7) (V7 m ρ c main_v61) (row g k) o
      = L2 m c g k o := by
  rw [keep7_v35, keep7_v38]
  exact lin_eq (Region2.Z1 (V7 m ρ) c) (L1 m c) (z1_at7 m ρ c) (L1_real h) _ _ _ _ (fun _ => h.r5 _) (at_v35 m ρ c) (at_v38 m ρ c) _ _ _ _
    (fun o j => congrFun (show W7 m ρ c (Proc.devRef .tc main_arg7) = A7 m c from W7_args m ρ c main_arg7 (by decide)) (ix2 o j))
    (fun o => (Stretch.v61 (W6 m ρ c) o).trans (congrFun (show W6 m ρ c (Proc.devRef .tc main_arg8) = A8 m c from W6_args m ρ c main_arg8 (by decide)) (ix1 o))) g k o

/-- The third layer as the third kernel computes it. -/
theorem h3_at7 (h : RealArgs m c) (g : Fin 4096) (k : Fin 32) (o : Fin 384) :
    Region2.H3 (V7 m ρ) c (row g k) o = L3 m c g k o :=
  lin_eq (Region2.Z2 (V7 m ρ) c) (L2 m c) (z2_at7 m ρ c h) (L2_real h) _ _ _ _ (fun _ => h.r9 _) (at_v54 m ρ c h) (at_v57 m ρ c h)
    _ _ _ _ (fun o j => congrFun (show W7 m ρ c (Proc.devRef .tc main_arg11) = A11 m c from W7_args m ρ c main_arg11 (by decide)) (ix2 o j))
    (fun o => (Stretch.v62 (W6 m ρ c) o).trans (congrFun (show W6 m ρ c (Proc.devRef .tc main_arg12) = A12 m c from W6_args m ρ c main_arg12 (by decide)) (ix1 o))) g k o

theorem at_v58 (o : Fin 768) (j : Fin 384) : (V7 m ρ c main_v58 : Vec Ideal S768x384 .f32) (ix2 o j)
    = A13 m c (ix2 o ⟨j.val, by omega⟩) :=
  (Stretch.v58 (W6 m ρ c) o j).trans (congrFun (show W6 m ρ c (Proc.devRef .tc main_arg13) = A13 m c from W6_args m ρ c main_arg13 (by decide)) _)
theorem at_v59 (o : Fin 768) (j : Fin 384) : (V7 m ρ c main_v59 : Vec Ideal S768x384 .f32) (ix2 o j)
    = A13 m c (ix2 o ⟨384 + j.val, by omega⟩) :=
  (Stretch.v59 (W6 m ρ c) o j).trans (congrFun (show W6 m ρ c (Proc.devRef .tc main_arg13) = A13 m c from W6_args m ρ c main_arg13 (by decide)) _)

/-- The fourth layer as the third kernel computes it. -/
theorem z4_at7 (h : RealArgs m c) (g : Fin 4096) (k : Fin 32) (o : Fin 768) :
    Region2.Z (V7 m ρ) c (row g k) o = L4 m c g k o :=
  z4_eq _ (L3 m c) (h3_at7 m ρ c h) _ (fg_eq _ _ (h3_at7 m ρ c h)) (A13 m c) _ _ _ _ (at_v58 m ρ c) (at_v59 m ρ c)
    (fun o => (Stretch.v63 (W6 m ρ c) o).trans (congrFun (show W6 m ρ c (Proc.devRef .tc main_arg14) = A14 m c from W6_args m ρ c main_arg14 (by decide)) (ix1 o))) g k o

theorem sums_at8 (h : RealArgs m c) (o : Fin 768) : (W8 m ρ c (Proc.devRef .tc main_v64_2) : Vec Ideal S1x768 .f32) (ix2 0 o)
    = total fun g k => L4 m c g k o := by
  have e : W8 m ρ c (Proc.devRef .tc main_v64_2) = _ := (W8_arr m ρ c 17).trans (Region2.sums (V7 m ρ) c)
  exact (congrFun e (ix2 0 o)).trans (sum_eq (Region2.Z (V7 m ρ) c) (L4 m c) (z4_at7 m ρ c h) o)

theorem squares_at8 (h : RealArgs m c) (o : Fin 768) : (W8 m ρ c (Proc.devRef .tc main_v64_3) : Vec Ideal S1x768 .f32) (ix2 0 o)
    = total fun g k => L4 m c g k o * L4 m c g k o := by
  have e : W8 m ρ c (Proc.devRef .tc main_v64_3) = _ := (W8_arr m ρ c 18).trans (Region2.squares (V7 m ρ) c)
  exact (congrFun e (ix2 0 o)).trans (sumsq_eq (Region2.Z (V7 m ρ) c) (L4 m c) (z4_at7 m ρ c h) o)

theorem at_v77 (h : RealArgs m c) (o : Fin 768) : (V9 m ρ c main_v77 : Vec Ideal S1x768 .f32) (ix2 0 o)
    = foldScale (total fun g k => L4 m c g k o) (total fun g k => L4 m c g k o * L4 m c g k o) (A15 m c (ix1 o)) := by
  refine (Stretch.v77 (W8 m ρ c) o).trans ?_
  rw [sums_at8 m ρ c h o, squares_at8 m ρ c h o,
    show W8 m ρ c (Proc.devRef .tc main_arg15) = A15 m c from W8_args m ρ c main_arg15 (by decide)]
theorem at_v80 (h : RealArgs m c) (o : Fin 768) : (V9 m ρ c main_v80 : Vec Ideal S1x768 .f32) (ix2 0 o)
    = foldShift (total fun g k => L4 m c g k o) (total fun g k => L4 m c g k o * L4 m c g k o) (A15 m c (ix1 o))
        (A16 m c (ix1 o)) := by
  refine (Stretch.v80 (W8 m ρ c) o).trans ?_
  rw [sums_at8 m ρ c h o, squares_at8 m ρ c h o,
    show W8 m ρ c (Proc.devRef .tc main_arg15) = A15 m c from W8_args m ρ c main_arg15 (by decide),
    show W8 m ρ c (Proc.devRef .tc main_arg16) = A16 m c from W8_args m ρ c main_arg16 (by decide)]

/-! ## The fourth kernel -/

theorem at_v64_0 (h : RealArgs m c) (g : Fin 4096) (k : Fin 32) (o : Fin 384) :
    (V9 m ρ c main_v64_0 : Vec Ideal S131072x384 .f32) (ix2 (row g k) o) = L3 m c g k o := by
  have e : V9 m ρ c main_v64_0 = _ :=
    ((W9_of m ρ c main_v64_0 (by decide)).trans (W8_arr m ρ c 15)).trans (Region2.third (V7 m ρ) c)
  exact (congrFun e (ix2 (row g k) o)).trans (h3_at7 m ρ c h g k o)
theorem at_v64_1 (h : RealArgs m c) (g : Fin 4096) (o : Fin 384) :
    (V9 m ρ c main_v64_1 : Vec Ideal S4096x384 .f32) (ix2 g o) = group (L3 m c) g o := by
  have e : V9 m ρ c main_v64_1 = _ :=
    ((W9_of m ρ c main_v64_1 (by decide)).trans (W8_arr m ρ c 16)).trans (Region2.maxima (V7 m ρ) c)
  exact (congrFun e (ix2 g o)).trans (fg_eq _ _ (h3_at7 m ρ c h) g o)

/-- The fourth layer as the fourth kernel computes it anew. -/
theorem z4_at9 (h : RealArgs m c) (g : Fin 4096) (k : Fin 32) (o : Fin 768) :
    Region3.Z4 (V9 m ρ c main_v64_0) (V9 m ρ c main_v64_1) (V9 m ρ c main_v58) (V9 m ρ c main_v59) (V9 m ρ c main_v81)
      (row g k) o = L4 m c g k o := by
  rw [keep9_v58, keep9_v59]
  exact z4_eq _ (L3 m c) (at_v64_0 m ρ c h) _ (at_v64_1 m ρ c h) (A13 m c) _ _ _ _ (at_v58 m ρ c) (at_v59 m ρ c)
    (fun o => (Stretch.v81 (W8 m ρ c) o).trans (congrFun (show W8 m ρ c (Proc.devRef .tc main_arg14) = A14 m c from W8_args m ρ c main_arg14 (by decide)) (ix1 o))) g k o

/-- The fifth layer as the fourth kernel computes it. -/
theorem h5_at9 (h : RealArgs m c) (g : Fin 4096) (k : Fin 32) (o : Fin 384) :
    Region3.H (V9 m ρ) c (row g k) o = L5 m c g k o :=
  lin_eq (Region3.Z4 (V9 m ρ c main_v64_0) (V9 m ρ c main_v64_1) (V9 m ρ c main_v58) (V9 m ρ c main_v59) (V9 m ρ c main_v81))
    (L4 m c) (z4_at9 m ρ c h) (L4_real h) _ _ _ _ (fun _ => h.r15 _) (at_v77 m ρ c h) (at_v80 m ρ c h)
    _ _ _ _ (fun o j => congrFun (show W9 m ρ c (Proc.devRef .tc main_arg17) = A17 m c from W9_args m ρ c main_arg17 (by decide)) (ix2 o j))
    (fun o => (Stretch.v82 (W8 m ρ c) o).trans (congrFun (show W8 m ρ c (Proc.devRef .tc main_arg18) = A18 m c from W8_args m ρ c main_arg18 (by decide)) (ix1 o))) g k o

/-- The result: the maxima of the fifth layer over the groups. -/
theorem result (h : RealArgs m c) : W10 m ρ c (Proc.devRef .tc main_v83)
    = (fun y : S4096x384.Idx => group (L5 m c) (y 0) (y 1)) := by
  refine ((W10_arr m ρ c 9).trans (Region3.maxima (V9 m ρ) c)).trans (funext fun y => ?_)
  exact fg_eq _ _ (h5_at9 m ρ c h) (y 0) (y 1)

end Cert.MlpIdeal.Values

end
-- ==== Proof.Finite.lean ====
/-
  Arguments whose magnitudes lie below infinity are real: the claim's precondition, read at one argument after another.
-/
module

public import proofs.«01_k».proof.Proof.Values
public import proofs.«01_k».proof.Defs
public import proofs.«01_k».proof.Proof.Gen.Pre_finite_args

@[expose] public section

set_option maxRecDepth 16384

noncomputable section

namespace Cert.MlpIdeal.Values

open Idealize.ShloMosaic Idealize.ShloMosaic.TcCoe Cert.MlpIdeal.Gen Cert.PointMlp

/-- The word of positive infinity. -/
theorem ofBits_inf : Ideal.ofBits .f32 0x7F800000#32 = ⊤ := by
  simp [Ideal.ofBits, Ideal.ieee]

/-- A value whose magnitude compares below infinity is real. -/
theorem real_of_lt (x : EReal) (h : Ideal.cmp .olt (max x (-x)) (Ideal.ofBits .f32 0x7F800000#32) = 1#1) : IsReal x := by
  rw [ofBits_inf] at h
  induction x using EReal.rec with
  | bot => exact absurd h (by simp [Ideal.cmp])
  | coe r => exact ⟨r, rfl⟩
  | top => exact absurd h (by simp [Ideal.cmp])

/-- An array whose magnitudes compare below infinity is real. -/
theorem real_of_finite {S : Shape} (x : FVec Ideal S .f32) (hb : S_.BroadcastsInDim S (![] : Fin 0 → Fin S.rank))
    (h : cmpf .olt (Host.absf x) (broadcastInDim S ![] hb (constant (F := Ideal) S_ .f32 0x7F800000#32)) = fun _ => 1#1)
    (y : S.Idx) : IsReal (x y) :=
  real_of_lt (x y) (congrFun h y)

/-- The precondition makes the arguments real that the layers before the last take. -/
theorem realArgs [hP : Cert.Pre_finite_args.Facts] (m : (ℓ : Loc nD τ sig) → Buf (Elt Ideal) ℓ)
    (hm : Cert.Pre_MlpIdeal_finite_args m) (c : Dev nD) : RealArgs m c := by
  have h := hm c
  exact {
    r0 := real_of_finite (A0 m c) _ h.1
    r2 := real_of_finite (A2 m c) _ h.2.1
    r3 := real_of_finite (A3 m c) _ h.2.2.1
    r4 := real_of_finite (A4 m c) _ h.2.2.2.1
    r5 := real_of_finite (A5 m c) _ h.2.2.2.2.1
    r6 := real_of_finite (A6 m c) _ h.2.2.2.2.2.1
    r7 := real_of_finite (A7 m c) _ h.2.2.2.2.2.2.1
    r8 := real_of_finite (A8 m c) _ h.2.2.2.2.2.2.2.1
    r9 := real_of_finite (A9 m c) _ h.2.2.2.2.2.2.2.2.1
    r10 := real_of_finite (A10 m c) _ h.2.2.2.2.2.2.2.2.2.1
    r11 := real_of_finite (A11 m c) _ h.2.2.2.2.2.2.2.2.2.2.1
    r12 := real_of_finite (A12 m c) _ h.2.2.2.2.2.2.2.2.2.2.2.1
    r13 := real_of_finite (A13 m c) _ h.2.2.2.2.2.2.2.2.2.2.2.2.1
    r14 := real_of_finite (A14 m c) _ h.2.2.2.2.2.2.2.2.2.2.2.2.2.1
    r15 := real_of_finite (A15 m c) _ h.2.2.2.2.2.2.2.2.2.2.2.2.2.2 }

end Cert.MlpIdeal.Values

end
-- ==== Proof.Compare.lean ====
/-
  The reference's result and the kernels' result are one function of the arguments.
-/
module

public import proofs.«01_k».proof.Proof.Values

@[expose] public section

set_option maxRecDepth 16384

noncomputable section

namespace Cert.MlpIdeal.Values

open Idealize.ShloMosaic Idealize.ShloMosaic.TcCoe Cert.MlpIdeal.Gen Cert.PointMlp

variable (m : (ℓ : Loc nD τ sig) → Buf (Elt Ideal) ℓ) (c : Dev nD)

/-- On the kernels' arguments the reference's result is the maxima of the fifth layer over the groups. -/
theorem reference_result (U : Valuation Cert.MlpRefIdeal.τ Cert.MlpRefIdeal.sig (Elt Ideal))
    (h0 : U (Proc.devRef .tc Cert.MlpRefIdeal.main_arg0) = A0 m c)
    (h1 : U (Proc.devRef .tc Cert.MlpRefIdeal.main_arg1) = A1 m c)
    (h2 : U (Proc.devRef .tc Cert.MlpRefIdeal.main_arg2) = A2 m c)
    (h3 : U (Proc.devRef .tc Cert.MlpRefIdeal.main_arg3) = A3 m c)
    (h4 : U (Proc.devRef .tc Cert.MlpRefIdeal.main_arg4) = A4 m c)
    (h5 : U (Proc.devRef .tc Cert.MlpRefIdeal.main_arg5) = A5 m c)
    (h6 : U (Proc.devRef .tc Cert.MlpRefIdeal.main_arg6) = A6 m c)
    (h7 : U (Proc.devRef .tc Cert.MlpRefIdeal.main_arg7) = A7 m c)
    (h8 : U (Proc.devRef .tc Cert.MlpRefIdeal.main_arg8) = A8 m c)
    (h9 : U (Proc.devRef .tc Cert.MlpRefIdeal.main_arg9) = A9 m c)
    (h10 : U (Proc.devRef .tc Cert.MlpRefIdeal.main_arg10) = A10 m c)
    (h11 : U (Proc.devRef .tc Cert.MlpRefIdeal.main_arg11) = A11 m c)
    (h12 : U (Proc.devRef .tc Cert.MlpRefIdeal.main_arg12) = A12 m c)
    (h13 : U (Proc.devRef .tc Cert.MlpRefIdeal.main_arg13) = A13 m c)
    (h14 : U (Proc.devRef .tc Cert.MlpRefIdeal.main_arg14) = A14 m c)
    (h15 : U (Proc.devRef .tc Cert.MlpRefIdeal.main_arg15) = A15 m c)
    (h16 : U (Proc.devRef .tc Cert.MlpRefIdeal.main_arg16) = A16 m c)
    (h17 : U (Proc.devRef .tc Cert.MlpRefIdeal.main_arg17) = A17 m c)
    (h18 : U (Proc.devRef .tc Cert.MlpRefIdeal.main_arg18) = A18 m c) :
    (Host.reduce (α := Ideal .f32) (FloatOps.maximumf (F := Ideal) (φ := .f32)) (Cert.MlpRefIdeal.Layers.last U)
      (constant (F := Ideal) Cert.MlpRefIdeal.S_ .f32 0xFF800000#32 : FVec Ideal Cert.MlpRefIdeal.S_ .f32)
      Cert.MlpRefIdeal.Facts₀.reducesTo_S4096x32x384_S4096x384_d1 Cert.MlpRefIdeal.Facts₀.h_S_
      : FVec Ideal Cert.MlpRefIdeal.S4096x384 .f32)
    = fun y : S4096x384.Idx => group (L5 m c) (y 0) (y 1) := by
  funext y
  rw [eq_ix2 y]
  refine (Cert.MlpRefIdeal.Layers.result U (y 0) (y 1)).trans ?_
  rw [h0, h1, h2, h3, h4, h5, h6, h7, h8, h9, h10, h11, h12, h13, h14, h15, h16, h17, h18]
  rfl

end Cert.MlpIdeal.Values

end
-- ==== Proof.lean ====
/-
  The claims of this directory, proved: the frames of the kernels' program at its words and at the reals, the reference's
  frame, and that the kernels' program computes the reference's function over the reals.
-/
module

public import proofs.«01_k».proof.Defs
public import proofs.«01_k».proof.Proof.Gen.Mlp
public import proofs.«01_k».proof.Proof.Gen.MlpIdeal
public import proofs.«01_k».proof.Proof.Gen.MlpRefIdeal
public import proofs.«01_k».proof.Proof.Gen.MlpRefIdeal.Run
public import proofs.«01_k».proof.Proof.Gen.Pre_finite_args
public import proofs.«01_k».proof.Proof.MlpFrame
public import proofs.«01_k».proof.Proof.MlpIdealFrame
public import proofs.«01_k».proof.Proof.Finite
public import proofs.«01_k».proof.Proof.Compare
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments alone and every counter at zero. -/
theorem reference_frame (m : (ℓ : Loc Cert.MlpRefIdeal.nD Cert.MlpRefIdeal.τ Cert.MlpRefIdeal.sig) → Buf (Elt Ideal) ℓ)
    (g : Dev Cert.MlpRefIdeal.nD → PrngReg) :
    θ_run (Cert.MlpRefIdeal.defs (F := Ideal)) (onTc (τ := Cert.MlpRefIdeal.τ) (Cert.MlpRefIdeal.main (F := Ideal)))
      ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18))
      ∧ r.2.sem = fun _ => 0) :=
  (θ_run Cert.MlpRefIdeal.defs _ _).mono
    (fun r h => ⟨fun c => (h c).2, sem_eq_zero_of_no_sems (by decide) r.2⟩) (Cert.MlpRefIdeal.Value.run m g)

/-- Over the reals the kernels' program and the reference compute one function of the arguments, where these are finite. -/
theorem values : Cert.algebraic_MlpIdeal_MlpRefIdeal_pre_finite_args := by
  intro m g m' g' hm hargs
  refine ⟨fun c => (fun y : Cert.MlpIdeal.S4096x384.Idx =>
    Cert.PointMlp.group (Cert.MlpIdeal.Values.L5 m c) (y 0) (y 1)), ?_, ?_⟩
  · exact (θ_run Cert.MlpIdeal.defs _ _).mono (fun r h c =>
      ⟨(h c).1.trans (Cert.MlpIdeal.Values.result m g c (Cert.MlpIdeal.Values.realArgs m hm c)), (h c).2⟩)
      (Cert.MlpIdeal.Values.run_values m g)
  · refine (θ_run Cert.MlpRefIdeal.defs _ _).mono (fun r h c => ⟨(h c).1.trans ?_, (h c).2⟩)
      (Cert.MlpRefIdeal.Value.run m' g')
    obtain ⟨h0, h1, h2, h3, h4, h5, h6, h7, h8, h9, h10, h11, h12, h13, h14, h15, h16, h17, h18⟩ := hargs c
    exact Cert.MlpIdeal.Values.reference_result m c (StableHlo.launchContents m' c) h0 h1 h2 h3 h4 h5 h6 h7 h8 h9 h10 h11 h12 h13 h14 h15 h16 h17 h18

/-- The claims. -/
theorem claim : Cert.Claim := ⟨Cert.Mlp.Gen.facts, Cert.MlpIdeal.Gen.facts, Cert.MlpRefIdeal.Gen.facts,
  Cert.Pre_finite_args.Gen.facts, fun m g _ => Cert.Mlp.Gen.frame m g, fun m g _ => Cert.MlpIdeal.Gen.frame m g,
  fun m g _ => Cert.MlpIdeal.Gen.frame m g, fun m g _ => reference_frame m g, fun m g _ => reference_frame m g,
  trivial, values⟩

end Cert.Proof

end
